-- ==== Defs.lean ====
def Pre_Kernel [hPre_drawn_from_the_vocabulary : Cert.Pre_drawn_from_the_vocabulary.Facts] (m : (ℓ : Loc Cert.Kernel.nD Cert.Kernel.τ Cert.Kernel.sig) → Buf (Elt Bits) ℓ) : Prop :=
  ∀ c : Dev Cert.Kernel.nD,
    (Cert.Pre_drawn_from_the_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_drawn_from_the_vocabulary : Cert.Pre_drawn_from_the_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_from_the_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_from_the_vocabulary [hPre_drawn_from_the_vocabulary : Cert.Pre_drawn_from_the_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_from_the_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_drawn_from_the_vocabulary : Cert.Pre_drawn_from_the_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_drawn_from_the_vocabulary : Cert.Pre_drawn_from_the_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn_from_the_vocabulary [hReferenceIdeal : Cert.ReferenceIdeal.Facts] [hPre_drawn_from_the_vocabulary : Cert.Pre_drawn_from_the_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_from_the_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn_from_the_vocabulary : Cert.Pre_drawn_from_the_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn_from_the_vocabulary : Cert.Pre_drawn_from_the_vocabulary.Facts),
    quiescent_Kernel (hKernel := hKernel) (hPre_drawn_from_the_vocabulary := hPre_drawn_from_the_vocabulary)
    ∧ quiescent_KernelIdeal (hKernelIdeal := hKernelIdeal) (hPre_drawn_from_the_vocabulary := hPre_drawn_from_the_vocabulary)
    ∧ quiescent_ReferenceIdeal (hReferenceIdeal := hReferenceIdeal)
    ∧ quiescent_ReferenceIdeal_pre_drawn_from_the_vocabulary (hReferenceIdeal := hReferenceIdeal) (hPre_drawn_from_the_vocabulary := hPre_drawn_from_the_vocabulary)
    ∧ preserves_Kernel_KernelIdeal
    ∧ algebraic_KernelIdeal_ReferenceIdeal (hKernelIdeal := hKernelIdeal) (hReferenceIdeal := hReferenceIdeal) (hPre_drawn_from_the_vocabulary := hPre_drawn_from_the_vocabulary)
-- ==== Pre_drawn_from_the_vocabulary.lean ====
abbrev S256 : Shape := ⟨1, ![256]⟩
abbrev S697162x512 : Shape := ⟨2, ![697162, 512]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : FVec F S697162x512 .f32) : IVec S256 1 :=
  let main_c : IVec S_ 32 := constantI S_ 32 0#32
  let main_v0 : IVec S256 32 := broadcastInDim S256 ![] bcast_S_S256 main_c
  let main_v1 : IVec S256 1 := cmpi .sge main_arg0 main_v0
  let main_c_0 : IVec S_ 32 := constantI S_ 32 697162#32
  let main_v2 : IVec S256 32 := broadcastInDim S256 ![] bcast_S_S256 main_c_0
  let main_v3 : IVec S256 1 := cmpi .slt main_arg0 main_v2
  let main_v4 : IVec S256 1 := andi main_v1 main_v3
  main_v4
-- ==== Kernel.lean ====
abbrev S256 : Shape := ⟨1, ![256]⟩
abbrev S697162x512 : Shape := ⟨2, ![697162, 512]⟩
abbrev S256x512 : Shape := ⟨2, ![256, 512]⟩
abbrev S8 : Shape := ⟨1, ![8]⟩
abbrev S8x512 : Shape := ⟨2, ![8, 512]⟩
abbrev S_ : Shape := ⟨0, ![]⟩
abbrev S8x128 : Shape := ⟨2, ![8, 128]⟩
abbrev S697162x128 : Shape := ⟨2, ![697162, 128]⟩
abbrev S256x256x512 : Shape := ⟨3, ![256, 256, 512]⟩
abbrev S8x256x512 : Shape := ⟨3, ![8, 256, 512]⟩
abbrev S1x512 : Shape := ⟨2, ![1, 512]⟩
abbrev S512 : Shape := ⟨1, ![512]⟩
abbrev S1x8x512 : Shape := ⟨3, ![1, 8, 512]⟩

abbrev nBuf : Table → Nat
  | .hbm => 4
  | .local .tc .vmem => 4
  | .local .scVector .vmem => 2
  | _ => 0

abbrev bufTy : (tb : Table) → Fin (nBuf tb) → BufTy
  | .hbm, ⟨0, _⟩ => ⟨S256, .i32⟩
  | .hbm, ⟨1, _⟩ => ⟨S697162x512, .f32⟩
  | .hbm, ⟨2, _⟩ => ⟨S256x512, .f32⟩
  | .hbm, ⟨3, _⟩ => ⟨S256x256x512, .f32⟩
  | .local .tc .vmem, ⟨0, _⟩ => ⟨S8x256x512, .f32⟩
  | .local .tc .vmem, ⟨1, _⟩ => ⟨S8x256x512, .f32⟩
  | .local .tc .vmem, ⟨2, _⟩ => ⟨S256x512, .f32⟩
  | .local .tc .vmem, ⟨3, _⟩ => ⟨S256x512, .f32⟩
  | .local .scVector .vmem, ⟨0, _⟩ => ⟨S8, .i32⟩
  | .local .scVector .vmem, ⟨1, _⟩ => ⟨S8x512, .f32⟩
  | _, _ => ⟨S256, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_scratch0 : Ref sig .tc := ⟨.vmem, 2, rfl⟩
abbrev cc1_scratch1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_28_r1 : BitVec 32 := 0#32
  ![v2.toNat, 0]
abbrev grid1 : Pipeline.Grid := ⟨1, ![32], ![false]⟩

def k1_off1 (i : grid1.Coords) : Fin 2 → Nat :=
  let arg0 : BitVec 32 := BitVec.ofNat 32 (i 0).val
  let c8_i32 : BitVec 32 := 8#32
  let v3 : BitVec 32 := Scalar.muli arg0 c8_i32
  let v4 : Index := Scalar.indexCast v3
  let c0 : Index := 0#32
  ![v4.toNat, 0]
def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256 : Shape := ⟨1, ![256]⟩
abbrev S697162x512 : Shape := ⟨2, ![697162, 512]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x512 : Shape := ⟨2, ![256, 512]⟩
abbrev S10000 : Shape := ⟨1, ![10000]⟩
abbrev S10000x1 : Shape := ⟨2, ![10000, 1]⟩
abbrev S1x256 : Shape := ⟨2, ![1, 256]⟩
abbrev S10000x256 : Shape := ⟨2, ![10000, 256]⟩
abbrev S10000x256x1 : Shape := ⟨3, ![10000, 256, 1]⟩
abbrev S10000x256x2 : Shape := ⟨3, ![10000, 256, 2]⟩
abbrev S10000x1x512 : Shape := ⟨3, ![10000, 1, 512]⟩
abbrev S256x1x512 : Shape := ⟨3, ![256, 1, 512]⟩
abbrev S1x256x512 : Shape := ⟨3, ![1, 256, 512]⟩
abbrev S256x256x512 : Shape := ⟨3, ![256, 256, 512]⟩

abbrev nBuf : Space → Nat
  | .hbm => 57
  | .vmem => 0
  | .smem => 0
  | _ => 0

abbrev bufTy : (tb : Table) → Fin (tcTables nBuf tb) → BufTy
  | .hbm, ⟨0, _⟩ => ⟨S256, .i32⟩
  | .hbm, ⟨1, _⟩ => ⟨S697162x512, .f32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S1x1, .i32⟩
  | .hbm, ⟨15, _⟩ => ⟨S256x1, .i32⟩
  | .hbm, ⟨16, _⟩ => ⟨S256x1, .i1⟩
  | .hbm, ⟨17, _⟩ => ⟨S256x1, .i1⟩
  | .hbm, ⟨18, _⟩ => ⟨S_, .i1⟩
  | .hbm, ⟨19, _⟩ => ⟨S256, .i1⟩
  | .hbm, ⟨20, _⟩ => ⟨S256x512, .f32⟩
  | .hbm, ⟨21, _⟩ => ⟨S256x512, .i1⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S10000, .f32⟩
  | .hbm, ⟨37, _⟩ => ⟨S10000x1, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S10000x256x1, .f32⟩
  | .hbm, ⟨49, _⟩ => ⟨S10000x256x1, .f32⟩
  | .hbm, ⟨50, _⟩ => ⟨S10000x256x2, .f32⟩
  | .hbm, ⟨51, _⟩ => ⟨S10000x1x512, .f32⟩
  | .hbm, ⟨52, _⟩ => ⟨S256x1x512, .f32⟩
  | .hbm, ⟨53, _⟩ => ⟨S1x256x512, .f32⟩
  | .hbm, ⟨54, _⟩ => ⟨S256x256x512, .f32⟩
  | .hbm, ⟨55, _⟩ => ⟨S256x256x512, .f32⟩
  | .hbm, ⟨56, _⟩ => ⟨S256x256x512, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Proof.Setup.lean ====
/-
  What every module of the proof shares: the program as a SparseCore call followed by a TensorCore region, the ghost
  state the proof runs over, the places the two calls work on, and what the proof asks of the launch memory.
-/
module

public import proofs.«01_k».proof.Defs
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels under the SparseCore layer: the kernels' and the one TensorCore region's. -/
abbrev ΛP : Labels := Pipeline.Sig Λ₀ (Fin 1) fun p => (pcfgs (F := F) p).Adm
/-- The one SparseCore call. -/
abbrev K : SparseCore.Cfg τ sig (ΛP (F := F)) 1 := sc (F := F)
/-- Sixteen subcores per SparseCore, two SparseCores. -/
theorem nSub_zero : (K (F := F)).nSub 0 = 16 := rfl
/-- The call runs on both SparseCores. -/
theorem nCore_zero : (K (F := F)).nCore 0 = 2 := rfl
/-- The program's definitions, regions included. -/
abbrev D [FloatOps F] : Defs nD τ sig (Elt F) (ΛP (F := F)) := Pipeline.defs pcfgs defs₀
/-- No loop of the program needs a variant. -/
abbrev 𝒱₀ : Variants := Variants.none
/-- The same with the regions' own. -/
abbrev 𝒱 : Variants := 𝒱₀.lift
/-- The launch's variant. -/
abbrev v₀ : 𝒱.V := Sum.inl none

/-- The launch semaphores are distinct and of the right scopes, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Ghost state: the handshakes' rounds, the region's staging rounds, the transfers' counters -/

/-- The SparseCore handshakes' rounds. -/
abbrev UH : Type := URounds (GSem nD τ sig) ℕ
/-- The TensorCore region's staging rounds. -/
abbrev UP : Type := URounds (GSem nD τ sig) Unit
/-- All of the proof's ghost state; the counters are for the kernels' own transfers. -/
abbrev UU : Type := UH × (UP × Counters)

local notation "𝕄" => MT nD τ sig (HIx 1) (Elt F) ℕ UU ℕ

/-- The handshakes' part of the ghost state. -/
abbrev EH : Emb UH (MT nD τ sig (HIx 1) (Elt F) ℕ UU ℕ) := embL
/-- The staging rounds inside the whole. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The launch memory and the buffers -/

/-- The row numbers, the embedding table, the gathered rows and the result, on device `d`. -/
abbrev iLoc (d : Dev nD) : Loc nD τ sig := (SparseCore.T d).loc main_arg0
/-- The table. -/
abbrev xLoc (d : Dev nD) : Loc nD τ sig := (SparseCore.T d).loc main_arg1
/-- The gathered rows. -/
abbrev oLoc (d : Dev nD) : Loc nD τ sig := (SparseCore.T d).loc main_v0
/-- The result. -/
abbrev rLoc (d : Dev nD) : Loc nD τ sig := (SparseCore.T d).loc main_v1

variable (m : (ℓ : Loc nD τ sig) → Buf (Elt F) ℓ)

/-- What the proof asks of the launch memory: every row number is a row of the table. -/
def PreOK : Prop := ∀ (d : Dev nD) (j : S256.Idx), (m (iLoc d) j).toNat < 697162

/-- The index of word `j` of the row numbers. -/
def wordAt (j : Fin 256) : S256.Idx := fun | ⟨0, _⟩ => j
/-- The index of row `r`, column `k` of the table. -/
def tabAt (r : Fin 697162) (k : Fin 512) : S697162x512.Idx := fun | ⟨0, _⟩ => r | ⟨1, _⟩ => k
/-- The index of row `r`, column `k` of the gathered rows. -/
def rowAt (r : Fin 256) (k : Fin 512) : S256x512.Idx := fun | ⟨0, _⟩ => r | ⟨1, _⟩ => k

/-- The row of the table the `j`-th word names (any row where the word names none). -/
def rowOf (d : Dev nD) (j : Fin 256) : Fin 697162 :=
  ⟨(m (iLoc d) (wordAt j)).toNat % 697162, Nat.mod_lt _ (by omega)⟩

/-- The gathered rows: at row `j`, the table's row that word `j` names. -/
def gath (d : Dev nD) : Vec F S256x512 .f32 := fun y => m (xLoc d) (tabAt (rowOf m d (y 0)) (y 1))

end Cert.Proof.Gather

end
-- ==== Proof.GatherStep.lean ====
/-
  One column gather of a SparseCore task: eight rows of the table, each named by a word of the task's list, 128 columns
  of each, into the same columns of the row scratch. The scratch's other columns keep what they held.
-/
module

public import proofs.«01_k».proof.Proof.Setup

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's memrefs -/

/-- The row numbers, the table and the gathered rows as a vector subcore addresses them; its list and its rows. -/
abbrev iV : Memref sig .scVector .hbm S256 .i32 := Memref.whole main_arg0_scv
abbrev xV : Memref sig .scVector .hbm S697162x512 .f32 := Memref.whole main_arg1_scv
abbrev oV : Memref sig .scVector .hbm S256x512 .f32 := Memref.whole main_v0_scv
abbrev sV : Memref sig .scVector .vmem S8 .i32 := Memref.whole cc0_scratch0
abbrev rV : Memref sig .scVector .vmem S8x512 .f32 := Memref.whole cc0_scratch1

variable (m : (ℓ : Loc nD τ sig) → Buf (Elt F) ℓ)

/-- Columns `k … k + 127` of the table and of the row scratch. -/
abbrev xCols (k : ℕ) (hx : ∀ a, (![0, k] : Fin 2 → ℕ) a + S697162x128.size a ≤ S697162x512.size a) : Memref sig .scVector .hbm S697162x128 .f32 :=
  (xV).slice (Rect.unit (s := S697162x512) ![0, k] S697162x128.size hx) (fun _ => rfl)
abbrev rCols (k : ℕ) (hr : ∀ a, (![0, k] : Fin 2 → ℕ) a + S8x128.size a ≤ S8x512.size a) : Memref sig .scVector .vmem S8x128 .f32 :=
  (rV).slice (Rect.unit (s := S8x512) ![0, k] S8x128.size hr) (fun _ => rfl)

/-- The row scratch with columns `k … k + 127` of the table's rows `r` over contents `f`. -/
def withCols (d : Dev nD) (r : Fin 8 → Fin 697162) (k : ℕ) (f : Vec F S8x512 .f32) : Vec F S8x512 .f32 := fun y =>
  if k ≤ (y 1).val ∧ (y 1).val < k + 128 then m (xLoc d) (tabAt (r (y 0)) (y 1)) else f y

/-- The stream's payload at columns `k …`: row `y 0` of the scratch is the table's row `r (y 0)`. -/
theorem payload_at (d : Dev nD) (r : Fin 8 → Fin 697162) (k : ℕ) (hx) (rr : Fin 8 → Fin 697162) (hrr : rr = r) (x : S8x128.Idx) (hk : k + (x 1).val < 512) :
    SparseCore.gatherPayload (F := F) (e := .f32) gathers_S697162x128_S8x128 ((xCols k hx).view.read (Elt F) (m (xLoc d))) rr x
      = m (xLoc d) (tabAt (r (x 0)) ⟨k + (x 1).val, hk⟩) := by
  subst hrr
  unfold SparseCore.gatherPayload
  rw [View.read_apply]
  refine (cast_eq _ _).trans ?_
  congr 1
  funext a
  match a with
  | ⟨0, _⟩ => exact Fin.ext (by show 0 + 1 * (rr (x 0)).val = (rr (x 0)).val; omega)
  | ⟨1, _⟩ => exact Fin.ext (by show k + 1 * (x 1).val = k + (x 1).val; omega)

/-- The gathered columns with the rest of the scratch are the scratch `withCols` says. -/
theorem piecewise_cols (d : Dev nD) (r : Fin 8 → Fin 697162) (k : ℕ) (hx) (hr) (rr : Fin 8 → Fin 697162) (hrr : rr = r) (f : Vec F S8x512 .f32) (y : S8x512.Idx) :
    (rCols k hr).view.set.piecewise ((rCols k hr).view.write (Elt F) f
        (SparseCore.gatherPayload (F := F) (e := .f32) gathers_S697162x128_S8x128 ((xCols k hx).view.read (Elt F) (m (xLoc d))) rr) Finset.univ) f y
      = withCols m d r k f y := by
  unfold withCols
  have hmem : y ∈ (rCols k hr).view.set ↔ k ≤ (y 1).val ∧ (y 1).val < k + 128 := by
    show y ∈ ((View.whole cc0_scratch1).slice (Rect.unit (s := S8x512) ![0, k] S8x128.size hr)).set ↔ _
    rw [View.set_slice_whole, Rect.mem_set_unit]
    have h0 : (y 0).val < 8 := (y 0).isLt
    constructor
    · intro h; exact h 1
    · intro h a
      match a with
      | ⟨0, _⟩ => exact ⟨Nat.zero_le _, by show (y 0).val < 0 + 8; omega⟩
      | ⟨1, _⟩ => exact h
  by_cases h : y ∈ (rCols k hr).view.set
  · rw [Finset.piecewise_eq_of_mem _ _ _ h, if_pos (hmem.mp h)]
    obtain ⟨hlo, hhi⟩ := hmem.mp h
    let x : S8x128.Idx := fun | ⟨0, _⟩ => y 0 | ⟨1, _⟩ => ⟨(y 1).val - k, by show _ < 128; omega⟩
    have hy : y = (rCols k hr).view.emb x := by
      funext a
      match a with
      | ⟨0, _⟩ => exact Fin.ext (by show (y 0).val = 0 + 1 * (y 0).val; omega)
      | ⟨1, _⟩ => exact Fin.ext (by show (y 1).val = k + 1 * ((y 1).val - k); omega)
    have hw := View.read_write_of_mem (v := (rCols k hr).view) (Val := Elt F) f
      (SparseCore.gatherPayload (F := F) (e := .f32) gathers_S697162x128_S8x128 ((xCols k hx).view.read (Elt F) (m (xLoc d))) rr) (Finset.mem_univ x)
    have hlt : k + (x 1).val < 512 := by
      have : (y 1).val < 512 := (y 1).isLt
      show k + ((y 1).val - k) < 512; omega
    rw [payload_at m d r k hx rr hrr x hlt, View.read_apply] at hw
    refine (congrArg _ hy).trans (((cast_eq _ _).symm.trans hw).trans ?_)
    congr 2
    exact Fin.ext (by show k + ((y 1).val - k) = (y 1).val; omega)
  · rw [Finset.piecewise_eq_of_notMem _ _ _ h, if_neg (fun h' => h (hmem.mpr h'))]

/-- Entry `k` of an eight-word list is its word `k`. -/
theorem list_entry : ∀ k : Fin 8, (S8.rowMajor.symm (k.cast (rfl : (8 : ℕ) = S8.numel)) 0).val = k.val :=
  (by decide +kernel : ∀ k : Fin 8, (S8.rowMajor.symm (k.cast (rfl : (8 : ℕ) = S8.numel)) 0).val = k.val)

/-- The rows the stream reads off its list are the ones the list names. -/
theorem rows_eq (r : Fin 8 → Fin 697162) (fo : Vec F S8 .i32) (hfo : ∀ y : S8.Idx, (fo y).toNat = (r (y 0)).val) (hin) :
    SparseCore.rows (F := F) (o := 8) (z := 697162) ((sV).view.read (Elt F) fo) rfl hin = r := by
  funext k
  apply Fin.ext
  show ((sV).view.read (Elt F) fo _).toNat = _
  rw [show (sV).view.read (Elt F) fo = fo from View.read_whole _ _, hfo]
  exact congrArg (fun k : Fin 8 => (r k).val) (Fin.ext (list_entry k))

/-! ## The step -/

set_option maxHeartbeats 1000000 in
/-- One gather and its wait. -/
theorem gather_step (d : Dev nD) (c : Fin τ.nSC) (j : Fin τ.nSub) (r : Fin 8 → Fin 697162) (k : ℕ) (hx) (hr) (q : PosShare TreeShare)
    (f : Vec F S8x512 .f32) (fo : Vec F S8 .i32) (hfo : ∀ y : S8.Idx, (fo y).toNat = (r (y 0)).val)
    (hN : ∑ j, ((rCols k hr).slice (S8x128.rowRect gathers_S697162x128_S8x128.axis' j) (S8x128.stride_rowRect gathers_S697162x128_S8x128.axis' j)).view.dmaCredit
      = (rCols k hr).view.dmaCredit)
    (O : CellTallies nD τ sig (HIx 1)) (W : Waits sig (HIx 1)) {hw1 hw2 hw3 hw4 hw5 hw6} {α : Type}
    (kont : PUnit → Prog (TpuEff nD τ sig (Elt F) Λ₀ (.scVector c j)) α) (Q : α → sProp 𝕄) :
    iprop((xLoc d ↦{q} m (xLoc d)) ∗ ((V d c j).loc cc0_scratch1 ↦{fullShare} f) ∗ ((V d c j).loc cc0_scratch0 ↦{fullShare} fo)
        ∗ semVal (V d c j, .dma cc0_scratch2.sem) 0 ∗ owes (V d c j) O W ∗ Transfers.MayWaits (V d c j) (default : HIx 1) O)
      ⊢ iprop((iprop((xLoc d ↦{q} m (xLoc d)) ∗ ((V d c j).loc cc0_scratch1 ↦{fullShare} withCols m d r k f) ∗ ((V d c j).loc cc0_scratch0 ↦{fullShare} fo)
          ∗ semVal (V d c j, .dma cc0_scratch2.sem) 0 ∗ owes (V d c j) O (insert (SemLoc.dma cc0_scratch2.sem, default) W))
          -∗ wp frame (wpE (defs₀ (F := F)) 𝒱₀ (V d c j) none) Set.univ (kont ⟨⟩) Q)
        -∗ wp frame (wpE (defs₀ (F := F)) 𝒱₀ (V d c j) none) Set.univ
            (SparseCore.enqueueIndirectGather (p := .scVector c j) rfl (xCols k hx) (rCols k hr) gathers_S697162x128_S8x128 sV rfl cc0_scratch2.sem hw1 hw2 hw3 hw4 >>= fun _ =>
              SparseCore.waitIndirectGather (p := .scVector c j) cc0_scratch2.sem (xCols k hx) (rCols k hr) hw5 hw6 >>= kont) Q) := by
  iintro ⟨Hx, Hr, Hs, Hq, HO, Hmw⟩ Hk
  ihave Hxs := (pointsTo_split_subset (q := q) (f := m (xLoc d)) (S := Finset.univ) (Finset.subset_univ (xCols k hx).view.set)).1 $$ Hx
  icases Hxs with ⟨Hxs, Hxr⟩
  ihave Hrs := (pointsTo_split_subset (q := fullShare) (f := f) (S := Finset.univ) (Finset.subset_univ (rCols k hr).view.set)).1 $$ Hr
  icases Hrs with ⟨Hrs, Hrr⟩
  have hss : (sV).view.set = Finset.univ := View.set_whole _
  have hin : ∀ x, ((sV).view.read (Elt F) fo x).toNat < S697162x128.size gathers_S697162x128_S8x128.axis := fun x => by
    rw [show (sV).view.read (Elt F) fo = fo from View.read_whole _ _]
    rw [hfo x]; exact (r (x 0)).isLt
  ihave Hs' := (Entails.of_eq (show ((V d c j).loc cc0_scratch0 ↦{fullShare} fo : sProp 𝕄)
      = (sV).view.loc (V d c j) ↦[(sV).view.set]{fullShare} fo by rw [hss])) $$ Hs
  iapply (SparseCore.wp_indirectGatherLocal countersEmb 𝒱₀ (V d c j) none (hg := gathers_S697162x128_S8x128) (default : HIx 1)
      (rCols k hr).view.dmaCredit hN (by decide) hin) $$ [Hxs Hrs Hs' Hq]
  · isplitl [Hxs]; · iexact Hxs
    isplitl [Hrs]; · iexact Hrs
    isplitl [Hs']; · iexact Hs'
    iexact Hq
  iintro Hfl
  iapply (Transfers.wp_waitLocalO countersEmb 𝒱₀ (V d c j) none (default : HIx 1) (rfl : (rCols k hr).view.dmaCredit = _)) $$ [Hfl HO Hmw]
  · isplitl [Hfl]; · iexact Hfl
    isplitl [HO]; · iexact HO
    iapply (Transfers.MayWaits.elim (SemLoc.dma cc0_scratch2.sem)) $$ Hmw
  iintro ⟨⟨Hrs, Hxs, Hs⟩, Hq, HO⟩
  iapply Hk
  isplitl [Hxs Hxr]
  · iapply (pointsTo_split_subset (q := q) (f := m (xLoc d)) (S := Finset.univ) (Finset.subset_univ (xCols k hx).view.set)).2
    isplitl [Hxs] <;> iassumption
  isplitl [Hrs Hrr]
  · rw [show ((V d c j).loc cc0_scratch1 ↦{fullShare} withCols m d r k f : sProp 𝕄) = _ from
      (pointsTo_congr (ℓ := (V d c j).loc cc0_scratch1) (q := fullShare) (I := Finset.univ)
        (fun y _ => piecewise_cols m d r k hx hr _ (rows_eq r fo hfo hin) f y)).symm]
    iapply (pointsTo_join_subset (ℓ := (V d c j).loc cc0_scratch1) (q := fullShare) (Finset.subset_univ (rCols k hr).view.set))
    isplitl [Hrs]
    · iexact Hrs
    · iexact Hrr
  isplitl [Hs]
  · iapply (Entails.of_eq (show ((V d c j).loc cc0_scratch0 ↦{fullShare} fo : sProp 𝕄)
      = (sV).view.loc (V d c j) ↦[(sV).view.set]{fullShare} fo by rw [hss]).symm)
    iexact Hs
  isplitl [Hq]; · iexact Hq
  iexact HO

end Cert.Proof.Gather

end
-- ==== Proof.Shares.lean ====
/-
  Cutting a share of a buffer into as many read-only pieces as there are tasks: every task takes the left half of what
  the tasks before it left, and what the last one leaves stays with whoever cut.
-/
module

public import proofs.«01_k».proof.Proof.Setup

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What is left of a share after `n` cuts. -/
def remnant (q : PosShare TreeShare) : ℕ → PosShare TreeShare
  | 0 => q
  | n + 1 => (remnant q n).right

/-- The piece the `n`-th cut takes. -/
def piecek (q : PosShare TreeShare) (n : ℕ) : PosShare TreeShare := (remnant q n).left

/-- A buffer held at a share is its first `n` pieces and the remnant. -/
theorem pointsTo_cut {ℓ : Loc nD τ sig} (f : Buf (Elt F) ℓ) (q : PosShare TreeShare) (n : ℕ) :
    (ℓ ↦{q} f : sProp 𝕄) = iprop((bigSep Finset.univ fun i : Fin n => ℓ ↦{piecek q i.val} f) ∗ ℓ ↦{remnant q n} f) := by
  induction n with
  | zero =>
    rw [show (bigSep Finset.univ fun i : Fin 0 => (ℓ ↦{piecek q i.val} f : sProp 𝕄)) = BI.emp by rw [(Finset.univ_eq_empty : (Finset.univ : Finset (Fin 0)) = ∅), BI.bigSep_empty]]
    exact (equiv_iff.mp BI.emp_sep).symm
  | succ n ih =>
    have hc : (ℓ ↦{remnant q n} f : sProp 𝕄) = iprop((ℓ ↦{piecek q n} f) ∗ ℓ ↦{remnant q (n + 1)} f) :=
      BI.Entails.antisymm (pointsTo_share (PosShare.mem_left_op_right _)).1 (pointsTo_share (PosShare.mem_left_op_right _)).2
    have hs : (bigSep Finset.univ fun i : Fin (n + 1) => (ℓ ↦{piecek q i.val} f : sProp 𝕄))
        = iprop((bigSep Finset.univ fun i : Fin n => ℓ ↦{piecek q i.val} f) ∗ ℓ ↦{piecek q n} f) := by
      rw [bigSep_univ_equiv (finSumFinEquiv : Fin n ⊕ Fin 1 ≃ Fin (n + 1)) (fun i => (ℓ ↦{piecek q i.val} f : sProp 𝕄)), bigSep_univ_sum,
        bigSep_univ_of_subsingleton (0 : Fin 1)]
      congr 1
    rw [ih, hc, hs]
    exact (equiv_iff.mp ⟨BI.sep_assoc, BI.sep_assoc'⟩).symm

end Cert.Proof.Gather

end
-- ==== Proof.Tile.lean ====
/-
  A SparseCore task: the eight words of its list fetched, the table's rows they name gathered column block by column
  block, the eight rows written out to its own rows of the result.
-/
module

public import proofs.«01_k».proof.Proof.GatherStep
public import proofs.«01_k».proof.Proof.Shares

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx ownCells mem_ownCells ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Which task is which -/

/-- Task `L`'s SparseCore, its subcore, and its number among the 32. -/
abbrev coreOf (L : grid0.Coords) : Fin τ.nSC := (L 0).castLE hcore0
abbrev subOf (L : grid0.Coords) : Fin τ.nSub := (L 1).castLE hsub0
/-- A task's number. -/
def taskNo (L : grid0.Coords) : Fin 32 := ⟨2 * (L 1).val + (L 0).val, by
  have h0 : (L 0).val < 2 := (L 0).isLt
  have h1 : (L 1).val < 16 := (L 1).isLt
  omega⟩

/-- The rows of the gathered array that task `w` fills. -/
def rowsOf (w : Fin 32) : Finset S256x512.Idx := Finset.univ.filter fun y => (y 0).val / 8 = w.val

/-- The words task `w` fetches number the rows it fills. -/
def listRow (w : Fin 32) (j : Fin 8) : Fin 256 := ⟨8 * w.val + j.val, by have := w.isLt; have := j.isLt; omega⟩

/-- Task `L`'s words of the list and rows of the array, as it addresses them. -/
abbrev iPart (L : grid0.Coords) : Memref sig .scVector .hbm S8 .i32 :=
  (iV).slice (Rect.unit (s := S256) (k0_off1 L) S8.size (k0_off1_inb L)) (fun _ => rfl)
/-- A task's rows of the gathered array. -/
abbrev oPart (L : grid0.Coords) : Memref sig .scVector .hbm S8x512 .f32 :=
  (oV).slice (Rect.unit (s := S256x512) (k0_off2 L) S8x512.size (k0_off2_inb L)) (fun _ => rfl)

/-- Its rows, as a set. -/
theorem set_oPart (L : grid0.Coords) : (oPart L).view.set = rowsOf (taskNo L) := by
  ext y
  show y ∈ ((View.whole main_v0_scv).slice (Rect.unit (s := S256x512) (k0_off2 L) S8x512.size (k0_off2_inb L))).set ↔ _
  rw [View.set_slice_whole, Rect.mem_set_unit, k0_off2_eq]
  unfold rowsOf taskNo
  rw [Finset.mem_filter]
  have h1 : (y 1).val < 512 := (y 1).isLt
  constructor
  · intro h
    have := h 0
    refine ⟨Finset.mem_univ _, ?_⟩
    simp at this ⊢
    omega
  · rintro ⟨-, h⟩ a
    match a with
    | ⟨0, _⟩ => simp at h ⊢; omega
    | ⟨1, _⟩ => exact ⟨Nat.zero_le _, by simp; omega⟩

/-- Where its rows lie. -/
theorem emb_oPart (L : grid0.Coords) (x : S8x512.Idx) : (oPart L).view.emb x = rowAt (listRow (taskNo L) (x 0)) (x 1) := by
  funext a
  have e := k0_off2_eq L
  match a with
  | ⟨0, _⟩ =>
    apply Fin.ext
    show (k0_off2 L) 0 + 1 * (x 0).val = 8 * (2 * (L 1).val + (L 0).val) + (x 0).val
    rw [e]; simp; try omega
  | ⟨1, _⟩ =>
    apply Fin.ext
    show (k0_off2 L) 1 + 1 * (x 1).val = (x 1).val
    rw [e]; simp

/-- Where its words lie. -/
theorem emb_iPart (L : grid0.Coords) (x : S8.Idx) : (iPart L).view.emb x = wordAt (listRow (taskNo L) (x 0)) := by
  funext a
  have e := k0_off1_eq L
  match a with
  | ⟨0, _⟩ =>
    apply Fin.ext
    show (k0_off1 L) 0 + 1 * (x 0).val = 8 * (2 * (L 1).val + (L 0).val) + (x 0).val
    rw [e]; simp; try omega

variable (m : (ℓ : Loc nD τ sig) → Buf (Elt F) ℓ)

/-- The list a task fetches, and the rows of the table it names. -/
def listOf (d : Dev nD) (w : Fin 32) : Vec F S8 .i32 := fun x => m (iLoc d) (wordAt (listRow w (x 0)))
/-- The table's rows that its words name. -/
def namedBy (d : Dev nD) (w : Fin 32) (j : Fin 8) : Fin 697162 := rowOf m d (listRow w j)

/-- A word in range names the row of its number. -/
theorem list_names (hpre : PreOK m) (d : Dev nD) (w : Fin 32) (y : S8.Idx) : (listOf m d w y).toNat = (namedBy m d w (y 0)).val := by
  show _ = _ % 697162
  rw [Nat.mod_eq_of_lt (hpre d _)]; rfl

/-- What it reads of the list. -/
theorem read_iPart (d : Dev nD) (L : grid0.Coords) : (iPart L).view.read (Elt F) (m (iLoc d)) = listOf m d (taskNo L) := by
  funext x
  refine ((View.read_apply _ _).trans (cast_eq _ _)).trans ?_
  rw [emb_iPart]; rfl

/-- The eight rows a task gathers. -/
def eightRows (d : Dev nD) (w : Fin 32) : Vec F S8x512 .f32 := fun y => gath m d (rowAt (listRow w (y 0)) (y 1))

/-- Written out, they are the task's rows of the gathered array. -/
theorem written_rows (d : Dev nD) (L : grid0.Coords) (f : Buf (Elt F) (oLoc d)) :
    (oLoc d ↦[(oPart L).view.set]{fullShare} (oPart L).view.writes (Elt F) f [⟨Rect.whole S8x512, ReadAs.same.apply ((rV).view.read (Elt F) (eightRows m d (taskNo L)))⟩] : sProp 𝕄)
      = oLoc d ↦[(oPart L).view.set]{fullShare} gath m d :=
  pointsTo_congr fun y hy => by
    obtain ⟨x, -, rfl⟩ := Finset.mem_map.mp hy
    have hw := View.read_writes_apply_of_pieces (oPart L).view f (eightRows m d (taskNo L))
      [⟨Rect.whole S8x512, ReadAs.same.apply ((rV).view.read (Elt F) (eightRows m d (taskNo L)))⟩] (fun p hp z => by
        obtain rfl := List.mem_singleton.mp hp
        show eightRows m d (taskNo L) z = eightRows m d (taskNo L) _
        congr 1; funext a; exact Fin.ext (by show (z a).val = 0 + 1 * (z a).val; omega)) x
      ⟨_, List.mem_singleton.mpr rfl, by rw [Rect.set_whole]; exact Finset.mem_univ _⟩
    rw [View.read_apply] at hw
    refine ((cast_eq _ _).symm.trans hw).trans ?_
    rw [emb_oPart]; rfl

/-- Four column blocks over any contents are the eight rows. -/
theorem all_cols (d : Dev nD) (w : Fin 32) (f : Vec F S8x512 .f32) :
    withCols m d (namedBy m d w) 384 (withCols m d (namedBy m d w) 256 (withCols m d (namedBy m d w) 128 (withCols m d (namedBy m d w) 0 f)))
      = eightRows m d w := by
  funext y
  have h1 : (y 1).val < 512 := (y 1).isLt
  unfold withCols
  have e : m (xLoc d) (tabAt (namedBy m d w (y 0)) (y 1)) = gath m d (rowAt (listRow w (y 0)) (y 1)) := rfl
  split
  · exact e
  · split
    · exact e
    · split
      · exact e
      · split
        · exact e
        · omega

/-! ## What a task takes and brings back -/

/-- Task `w`'s part: a piece of the list, a piece of the table, its rows of the gathered array at `f`. -/
def part (d : Dev nD) (w : Fin 32) (f : Buf (Elt F) (oLoc d)) : sProp 𝕄 :=
  iprop((iLoc d ↦{piecek fullShare w.val} m (iLoc d)) ∗ (xLoc d ↦{piecek fullShare w.val} m (xLoc d)) ∗ oLoc d ↦[rowsOf w]{fullShare} f)

/-! ## The subcore's own semaphores and buffers -/

section Own

variable (d : Dev nD) (c : Fin τ.nSC) (j : Fin τ.nSub)

/-- The semaphore of the words' copy. -/
abbrev fetchSem : GSem nD τ sig := (V d c j, .dma cc0_scoped0.sem)
/-- The gathers'. -/
abbrev streamSem : GSem nD τ sig := (V d c j, .dma cc0_scratch2.sem)
/-- The rows' copy out. -/
abbrev outSem : GSem nD τ sig := (V d c j, .dma cc0_scoped1.sem)

/-- The subcore's semaphores beyond the three the task uses. -/
def otherSems : sProp 𝕄 :=
  bigSep ((((ownCells (V d c j)).erase (fetchSem d c j)).erase (streamSem d c j)).erase (outSem d c j)) fun g => semVal g 0

/-- A tile's semaphores, these three and the others. -/
theorem sems_split : (SparseCore.Cfg.ownSems0 (V d c j) : sProp 𝕄)
    = iprop(semVal (fetchSem d c j) 0 ∗ semVal (streamSem d c j) 0 ∗ semVal (outSem d c j) 0 ∗ otherSems d c j) := by
  have h1 : fetchSem d c j ∈ ownCells (V d c j) := mem_ownCells.mpr ⟨rfl, show (SemLoc.dma cc0_scoped0.sem : SemLoc sig).isScoped .scVector = true by decide⟩
  have h2 : streamSem d c j ∈ ownCells (V d c j) := mem_ownCells.mpr ⟨rfl, show (SemLoc.dma cc0_scratch2.sem : SemLoc sig).isScoped .scVector = true by decide⟩
  have h3 : outSem d c j ∈ ownCells (V d c j) := mem_ownCells.mpr ⟨rfl, show (SemLoc.dma cc0_scoped1.sem : SemLoc sig).isScoped .scVector = true by decide⟩
  have n21 : streamSem d c j ≠ fetchSem d c j := fun e => absurd (congrArg Prod.snd e) (show (SemLoc.dma cc0_scratch2.sem : SemLoc sig) ≠ SemLoc.dma cc0_scoped0.sem by decide)
  have n31 : outSem d c j ≠ fetchSem d c j := fun e => absurd (congrArg Prod.snd e) (show (SemLoc.dma cc0_scoped1.sem : SemLoc sig) ≠ SemLoc.dma cc0_scoped0.sem by decide)
  have n32 : outSem d c j ≠ streamSem d c j := fun e => absurd (congrArg Prod.snd e) (show (SemLoc.dma cc0_scoped1.sem : SemLoc sig) ≠ SemLoc.dma cc0_scratch2.sem by decide)
  unfold SparseCore.Cfg.ownSems0 otherSems
  rw [SparseCore.bigSep_erase' h1, SparseCore.bigSep_erase' (Finset.mem_erase.mpr ⟨n21, h2⟩),
    SparseCore.bigSep_erase' (Finset.mem_erase.mpr ⟨n32, Finset.mem_erase.mpr ⟨n31, h3⟩⟩)]

/-- The subcore's buffers beyond the list and the rows. -/
def otherBufs : sProp 𝕄 :=
  bigSep (((ownRefs (τ := τ) (.scVector c j)).erase ((Proc.scVector c j).devRef cc0_scratch0)).erase ((Proc.scVector c j).devRef cc0_scratch1))
    fun b => iprop(∃ f, ((d, b) : Loc nD τ sig) ↦{fullShare} f)

/-- A tile's buffers, the two that it uses and the others. -/
theorem bufs_split : (ownBufs (V d c j) : sProp 𝕄)
    = iprop((∃ f, (V d c j).loc cc0_scratch0 ↦{fullShare} f) ∗ (∃ f, (V d c j).loc cc0_scratch1 ↦{fullShare} f) ∗ otherBufs d c j) := by
  have h0 := SparseCore.Cfg.mem_ownRefs_of_owner (p := Proc.scVector c j) (b := (Proc.scVector c j).devRef cc0_scratch0) rfl
  have h1 := SparseCore.Cfg.mem_ownRefs_of_owner (p := Proc.scVector c j) (b := (Proc.scVector c j).devRef cc0_scratch1) rfl
  have hn : (Proc.scVector c j).devRef cc0_scratch1 ≠ (Proc.scVector c j).devRef cc0_scratch0 :=
    fun e => absurd (Proc.devRef_injective _ e) (show (cc0_scratch1 : Ref sig .scVector) ≠ cc0_scratch0 by decide)
  unfold SparseCore.Cfg.ownBufs otherBufs
  exact (SparseCore.bigSep_erase' h0).trans (congrArg _ (SparseCore.bigSep_erase' (Finset.mem_erase.mpr ⟨hn, h1⟩)))

end Own

/-! ## The task's run -/

variable [FloatOps F]

set_option maxHeartbeats 4000000 in
theorem tile_body (hpre : PreOK m) (d : Dev nD) (L : grid0.Coords) (O : CellTallies nD τ sig (HIx 1)) (W : Waits sig (HIx 1)) (hO : ∀ g, O g none = 0) :
    iprop(levAts (K (F := F)).L (K (F := F)).lev ∗ emp ∗ part m d (taskNo L) (m (oLoc d))
        ∗ scopedBufs (V d (coreOf L) (subOf L)) ∗ scopedSems0 (V d (coreOf L) (subOf L)) ∗ owes (V d (coreOf L) (subOf L)) O W)
      ⊢ wp frame (wpE (defs₀ (F := F)) 𝒱₀ (V d (coreOf L) (subOf L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(part m d (taskNo L) (gath m d)
            ∗ scopedBufs (V d (coreOf L) (subOf L)) ∗ scopedSems0 (V d (coreOf L) (subOf L))
            ∗ ∃ W', ⌜∀ p ∈ W', p ∈ W ∨ p.2 = none⌝ ∗ owes (V d (coreOf L) (subOf L)) O W') := by
  simp only [cc0_gather_kernel_eq_skeleton]; unfold cc0_gather_kernel_skel
  simp only [k0_part1_eq_skeleton]; unfold k0_part1_skel
  rw [(K (F := F)).scopedBufs_V facts d (coreOf L) (subOf L), SparseCore.Cfg.scopedSems0_V (Val := Elt F) d (coreOf L) (subOf L), sems_split, bufs_split]
  unfold part
  iintro ⟨#Hlv, -, ⟨Hi, Hx, Ho⟩, ⟨⟨%fs, Hs⟩, ⟨%fr, Hr⟩, Hbufs⟩, ⟨Hq0, Hq1, Hq2, Hsems⟩, HO⟩
  ihave Hmw := (show levAts (K (F := F)).L (K (F := F)).lev ⊢ Transfers.MayWaits (V d (coreOf L) (subOf L)) (default : HIx 1) O from
    (K (F := F)).mayWaits_none (thr := V d (coreOf L) (subOf L)) hO) $$ Hlv
  ihave His := (pointsTo_split_subset (f := m (iLoc d)) (S := Finset.univ) (Finset.subset_univ (iPart L).view.set)).1 $$ Hi
  icases His with ⟨Hi, Hir⟩
  ihave Hi' := (Entails.of_eq (show ((iLoc d ↦[(iPart L).view.set]{piecek fullShare (taskNo L).val} m (iLoc d)) : sProp 𝕄)
      = (iPart L).view.loc (V d (coreOf L) (subOf L)) ↦[(iPart L).view.set]{piecek fullShare (taskNo L).val} m (iLoc d) from rfl)) $$ Hi
  ihave Hs' := (Entails.of_eq (show (((V d (coreOf L) (subOf L)).loc cc0_scratch0 ↦{fullShare} fs) : sProp 𝕄)
      = (sV).view.loc (V d (coreOf L) (subOf L)) ↦{fullShare} fs from rfl)) $$ Hs
  sl_exec
  ihave Hs := (Entails.of_eq (show ((sV).view.loc (V d (coreOf L) (subOf L)) ↦{fullShare} View.write (Elt F) (sV).view fs (tile_body.sl.dma0 m d L) Finset.univ : sProp 𝕄)
      = (V d (coreOf L) (subOf L)).loc cc0_scratch0 ↦{fullShare} listOf m d (taskNo L) from
      congrArg (fun g => ((V d (coreOf L) (subOf L)).loc cc0_scratch0 ↦{fullShare} g : sProp 𝕄)) ((View.write_whole_univ _ _ _).trans (read_iPart m d L)))) $$ Hs'
  have hl := list_names m hpre d (taskNo L)
  simp only [bind_assoc, pure_bind]
  iapply (gather_step m d (coreOf L) (subOf L) (namedBy m d (taskNo L)) 0 _ _ _ _ _ hl (by decide) O _ _ _) $$ [Hx Hr Hs Hq1 HO]
  · isplitl [Hx]; · iexact Hx
    isplitl [Hr]; · iexact Hr
    isplitl [Hs]; · iexact Hs
    isplitl [Hq1]; · iexact Hq1
    isplitl [HO]; · iexact HO
    iexact Hmw
  iintro ⟨Hx, Hr, Hs, Hq1, HO⟩
  iapply (gather_step m d (coreOf L) (subOf L) (namedBy m d (taskNo L)) 128 _ _ _ _ _ hl (by decide) O _ _ _) $$ [Hx Hr Hs Hq1 HO]
  · isplitl [Hx]; · iexact Hx
    isplitl [Hr]; · iexact Hr
    isplitl [Hs]; · iexact Hs
    isplitl [Hq1]; · iexact Hq1
    isplitl [HO]; · iexact HO
    iexact Hmw
  iintro ⟨Hx, Hr, Hs, Hq1, HO⟩
  iapply (gather_step m d (coreOf L) (subOf L) (namedBy m d (taskNo L)) 256 _ _ _ _ _ hl (by decide) O _ _ _) $$ [Hx Hr Hs Hq1 HO]
  · isplitl [Hx]; · iexact Hx
    isplitl [Hr]; · iexact Hr
    isplitl [Hs]; · iexact Hs
    isplitl [Hq1]; · iexact Hq1
    isplitl [HO]; · iexact HO
    iexact Hmw
  iintro ⟨Hx, Hr, Hs, Hq1, HO⟩
  iapply (gather_step m d (coreOf L) (subOf L) (namedBy m d (taskNo L)) 384 _ _ _ _ _ hl (by decide) O _ _ _) $$ [Hx Hr Hs Hq1 HO]
  · isplitl [Hx]; · iexact Hx
    isplitl [Hr]; · iexact Hr
    isplitl [Hs]; · iexact Hs
    isplitl [Hq1]; · iexact Hq1
    isplitl [HO]; · iexact HO
    iexact Hmw
  iintro ⟨Hx, Hr, Hs, Hq1, HO⟩
  rw [all_cols m d (taskNo L) fr]
  ihave Hr' := (Entails.of_eq (show (((V d (coreOf L) (subOf L)).loc cc0_scratch1 ↦{fullShare} eightRows m d (taskNo L)) : sProp 𝕄)
      = (rV).view.loc (V d (coreOf L) (subOf L)) ↦{fullShare} eightRows m d (taskNo L) from rfl)) $$ Hr
  ihave Ho' := (Entails.of_eq (show ((oLoc d ↦[rowsOf (taskNo L)]{fullShare} m (oLoc d)) : sProp 𝕄)
      = (oPart L).view.loc (V d (coreOf L) (subOf L)) ↦[(oPart L).view.set]{fullShare} m (oLoc d) by rw [set_oPart])) $$ Ho
  sl_exec
  sl_step
  isplitl [Hir Hx Ho']
  · isplitl [Hir]; · iexact Hir
    isplitl [Hx]; · iexact Hx
    rw [← set_oPart, ← written_rows m d L (m (oLoc d))]
    iexact Ho'
  isplitl [Hs Hr' Hbufs]
  · isplitl [Hs]; · iexists _; iexact Hs
    isplitl [Hr']; · iexists _; iexact Hr'
    iexact Hbufs
  isplitl [Hq0 Hq1 Hq2 Hsems]
  · isplitl [Hq0]; · iexact Hq0
    isplitl [Hq1]; · iexact Hq1
    isplitl [Hq2]; · iexact Hq2
    iexact Hsems
  iexists _; isplitr
  swap; · iexact HO
  ipureintro; intro p hp
  simp only [Finset.mem_insert] at hp
  rcases hp with h | h | h | h | h | h | h
  on_goal 7 => exact .inl h
  all_goals exact .inr (by rw [h]; rfl)

end Cert.Proof.Gather

end
-- ==== Proof.TcFirst.lean ====
/-
  One grid point of the TensorCore kernel, run symbolically. The body stores 256 rectangles of its output block; the run
  finds them as a list of pieces. At the first point it also fetches the gathered rows and computes the position table
  into its two scratch buffers; at the others it finds them there.
-/
module

public import proofs.«01_k».proof.Proof.Setup

@[expose] public section

set_option maxRecDepth 16384

noncomputable section

namespace Cert.Proof.Gather

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The branch the body takes at the first point only, as it computes the condition. -/
abbrev isFirst (i : grid1.Coords) : Prop :=
  (Scalar.cmpi .ne (Scalar.extui (Scalar.cmpi .eq (BitVec.ofNat 32 (i 0).val) 0#32)) 0#32) = 1#1

/-- It is taken at point 0 alone. -/
theorem isFirst_iff (t : Fin grid1.N) : isFirst (grid1.coords t) ↔ t.val = 0 := by
  have ht : t.val < 32 := Nat.lt_of_lt_of_eq t.isLt N_1
  have e0 : (grid1.coords t 0).val = t.val / 1 % 32 := Pipeline.Grid.coords_val t 0 (by decide) rfl
  have h : isFirst (grid1.coords t) ↔ t.val % 32 = 0 := by
    simp only [isFirst, e0]
    word_cmp
  rw [h]; omega

/-- The two scratch buffers: the gathered rows and the position table, as the kernel carries them from point to point. -/
abbrev rowsM : Memref sig .tc .vmem S256x512 .f32 := Memref.whole cc1_scratch0
abbrev posM : Memref sig .tc .vmem S256x512 .f32 := Memref.whole cc1_scratch1
/-- The gathered rows as the first call leaves them in the device's memory. -/
abbrev srcM : Memref sig .tc .hbm S256x512 .f32 := Memref.whole main_v0
/-- The type of a memref's contents on device `c`'s TensorCore. -/
abbrev BufOf (c : Dev nD) {sp : Space} {s : Shape} {e : EltTy} (M : Memref sig .tc sp s e) : Type := Buf (Elt F) (M.view.loc (c : Thread nD τ))
/-- A whole memref held in full at contents `f` (behind a name, so that rewriting leaves the memref as it is). -/
abbrev holds (c : Dev nD) {sp : Space} {s : Shape} {e : EltTy} (M : Memref sig .tc sp s e) (f : BufOf (F := F) c M) : sProp 𝕄 :=
  M.view.loc (c : Thread nD τ) ↦{fullShare} f

-- the run is long: about a thousand steps
set_option maxHeartbeats 4000000 in
/-- The body at the first point: the pieces it stores into its output block, into the row scratch and into the
    position scratch, and the run that leaves them there. -/
noncomputable def firstRun (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : isFirst i) (fx : BufOf (F := F) c srcM) :
    Σ' (L0 : List (View.Piece (Elt F) S8x256x512 .f32)) (LS0 : List (View.Piece (Elt F) S256x512 .f32)), { LS1 : List (View.Piece (Elt F) S256x512 .f32) //
      ∀ (W : Waits sig (HIx 1)) (R : PUnit → sProp 𝕄),
        iprop((∃ d, owns (c : Thread nD τ) arg2 fullShare d) ∗ (∃ d, owns (c : Thread nD τ) arg3 fullShare d) ∗ (∃ d, owns (c : Thread nD τ) arg4 fullShare d)
            ∗ semVal ((c : Thread nD τ), SemLoc.dma cc1_scratch2.sem) 0 ∗ holds c srcM fx ∗ owes (c : Thread nD τ) 0 W
            ∗ (iprop((∃ f, arg2.view.loc (c : Thread nD τ) ↦[arg2.view.set]{fullShare} arg2.view.writes (Elt F) f L0)
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)
                ∗ semVal ((c : Thread nD τ), SemLoc.dma cc1_scratch2.sem) 0 ∗ holds c srcM fx
                ∗ ∃ W', ⌜∀ p ∈ W', p ∈ W ∨ p.2 = none⌝ ∗ owes (c : Thread nD τ) 0 W') -∗ R ⟨⟩))
          ⊢ wp frame (wpE (defs₀ (F := F)) Variants.none c none) Set.univ
              (cc1__add_body i (Memref.whole main_v0) (Memref.isWhole_whole _) arg2 harg2 arg3 harg3 arg4 harg4 cc1_scratch2) R } := by
  refine ⟨?_, ?_, ?_, fun W R => ?run⟩
  case run =>
    simp only [cc1__add_body_eq_skeleton]; unfold cc1__add_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
    unfold owns
    iintro ⟨⟨%d0, %f0, -, H0⟩, ⟨%ds0, %fs0, -, HS0⟩, ⟨%ds1, %fs1, -, HS1⟩, Hq, Hx, HW, Hk⟩
    sl_exec (disch := first | sl_exact hc)
    sl_step
    iapply Hk
    isplitl [H0]; · iexists _; iexact H0
    isplitl [HS0]; · iexists _; iexact HS0
    isplitl [HS1]; · iexists _; iexact HS1
    isplitl [Hq]; · iexact Hq
    isplitl [Hx]; · iexact Hx
    iexists _; isplitr
    swap; · iexact HW
    ipureintro; intro p hp
    rcases Finset.mem_insert.mp hp with hp | hp; · exact .inr (hp ▸ rfl)
    exact .inl hp

end Cert.Proof.Gather

end
-- ==== Proof.TcLater.lean ====
/-
  A later grid point of the TensorCore kernel, run symbolically: the scratch buffers hold what the first point left.
-/
module

public import proofs.«01_k».proof.Proof.TcFirst

@[expose] public section

set_option maxRecDepth 16384

noncomputable section

namespace Cert.Proof.Gather

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

-- the run is long: about a thousand steps
set_option maxHeartbeats 4000000 in
/-- The body at a later point, the scratch buffers at `xs` and `ps`: the pieces it stores into its output block, and
    the run that leaves them there and the scratch as it was. -/
noncomputable def laterRun (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : ¬isFirst i) (xs ps : Vec F S256x512 .f32) (fx : BufOf (F := F) c srcM) :
    { L0 : List (View.Piece (Elt F) S8x256x512 .f32) //
      ∀ (W : Waits sig (HIx 1)) (R : PUnit → sProp 𝕄),
        iprop((∃ d, owns (c : Thread nD τ) arg2 fullShare d) ∗ owns (c : Thread nD τ) arg3 fullShare xs ∗ owns (c : Thread nD τ) arg4 fullShare ps
            ∗ semVal ((c : Thread nD τ), SemLoc.dma cc1_scratch2.sem) 0 ∗ holds c srcM fx ∗ owes (c : Thread nD τ) 0 W
            ∗ (iprop((∃ f, arg2.view.loc (c : Thread nD τ) ↦[arg2.view.set]{fullShare} arg2.view.writes (Elt F) f L0)
                ∗ owns (c : Thread nD τ) arg3 fullShare xs ∗ owns (c : Thread nD τ) arg4 fullShare ps
                ∗ semVal ((c : Thread nD τ), SemLoc.dma cc1_scratch2.sem) 0 ∗ holds c srcM fx
                ∗ ∃ W', ⌜∀ p ∈ W', p ∈ W ∨ p.2 = none⌝ ∗ owes (c : Thread nD τ) 0 W') -∗ R ⟨⟩))
          ⊢ wp frame (wpE (defs₀ (F := F)) Variants.none c none) Set.univ
              (cc1__add_body i (Memref.whole main_v0) (Memref.isWhole_whole _) arg2 harg2 arg3 harg3 arg4 harg4 cc1_scratch2) R } := by
  refine ⟨?_, fun W R => ?run⟩
  case run =>
    simp only [cc1__add_body_eq_skeleton]; unfold cc1__add_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
    unfold owns
    iintro ⟨⟨%d0, %f0, -, H0⟩, ⟨%fs0, %hfs0, HS0⟩, ⟨%fs1, %hfs1, HS1⟩, Hq, Hx, HW, Hk⟩
    obtain rfl := harg3.eq_unread hfs0; obtain rfl := harg4.eq_unread hfs1
    sl_exec (disch := first | sl_exact hc)
    sl_step
    iapply Hk
    isplitl [H0]; · iexists _; iexact H0
    isplitl [HS0]
    · iexists _; isplitr; · ipureintro; exact harg3.read_unread _
      iexact HS0
    isplitl [HS1]
    · iexists _; isplitr; · ipureintro; exact harg4.read_unread _
      iexact HS1
    isplitl [Hq]; · iexact Hq
    isplitl [Hx]; · iexact Hx
    iexists _; isplitr
    swap; · iexact HW
    ipureintro; intro p hp

    exact .inl hp

end Cert.Proof.Gather

end
-- ==== Proof.TcBlock.lean ====
/-
  What one grid point of the TensorCore kernel leaves in its output block. The 256 rectangles it stores are one list:
  for each eight gathered rows and each of the point's eight positions, the rows with that position's row added. The
  list covers the block, and element (a, j, d) of the block is row j of the gathered rows plus row 8 i + a of the
  position table, in column d.
-/
module

public import proofs.«01_k».proof.Proof.TcLater
public import Idealize.ShloMosaic.Lib.Pipeline.Value

@[expose] public section

set_option maxRecDepth 16384

noncomputable section

namespace Cert.Proof.Gather

open Cert.KernelIdeal Cert.KernelIdeal.Gen

open Idealize.ShloMosaic Idealize.ShloMosaic.TcCoe Idealize.ShloMosaic.Tactic

variable {F : FTy → Type} [FloatOps F]

/-! ## One store -/

/-- Each of eight rows can be cut out. -/
theorem row_slices (a : ℕ) (ha : a < 8) : S8x512.Slices ![a, 0] S1x512 :=
  ⟨rfl, fun x => match x with
    | ⟨0, _⟩ => show a + 1 ≤ 8 by omega
    | ⟨1, _⟩ => show 0 + 512 ≤ 512 by omega⟩

/-- Eight gathered rows `X` with row `a` of eight position rows `V` added to each, as the body computes it. -/
def addRow (V X : Vec F S8x512 .f32) (a : ℕ) (ha : a < 8) : Vec F S1x8x512 .f32 :=
  shapeCast S1x8x512
    (addf X (broadcastTo S8x512
      (shapeCast S1x512 (shapeCast S512 (extractStridedSlice S1x512 ![a, 0] V (row_slices a ha)) shapeCasts_S1x512_S512) shapeCasts_S512_S1x512)
      broadcasts_S1x512_S8x512))
    shapeCasts_S8x512_S1x8x512

/-- Indices of an [8, 512] and of an [8, 256, 512] array. -/
def idx2 (p : Fin 8) (q : Fin 512) : S8x512.Idx := fun
  | ⟨0, _⟩ => p
  | ⟨1, _⟩ => q

/-- A row added to eight rows, at an index. -/
theorem addRow_apply (V X : Vec F S8x512 .f32) (a : ℕ) (ha : a < 8) (x : S1x8x512.Idx) :
    addRow V X a ha x = FloatOps.addf (X (idx2 (x 1) (x 2))) (V (idx2 ⟨a, ha⟩ (x 2))) := by
  have ex : (fun b => x b.succ : S8x512.Idx) = idx2 (x 1) (x 2) := by funext b; fin_cases b <;> rfl
  unfold addRow
  rw [shapeCast_addUnit_apply ![8, 512], shapeCast_shapeCast]
  refine congrArg₂ FloatOps.addf (congrArg X ex) ((congrArg (broadcastTo S8x512 (extractStridedSlice S1x512 ![a, 0] V (row_slices a ha)) broadcasts_S1x512_S8x512) ex).trans ?_)
  rw [broadcastTo_apply _ broadcasts_S1x512_S8x512 (idx2 (x 1) (x 2))
    (fun | ⟨0, _⟩ => (0 : Fin 1) | ⟨1, _⟩ => (x 2 : Fin 512) : S1x512.Idx) (fun b => by fin_cases b <;> rfl)]
  exact extractStridedSlice_apply _ _ _ _ _ (fun b => by fin_cases b <;> simp [idx2])

/-! ## All the stores -/

/-- Every piece lies in the block. -/
theorem piece_inb (n : ℕ) (hn : n < 256) : ∀ a, (![n % 8, 8 * (n / 8), 0] : Fin 3 → ℕ) a + S1x8x512.size a ≤ S8x256x512.size a
  | ⟨0, _⟩ => show n % 8 + 1 ≤ 8 by omega
  | ⟨1, _⟩ => show 8 * (n / 8) + 8 ≤ 256 by omega
  | ⟨2, _⟩ => show 0 + 512 ≤ 512 by omega

/-- Store `n` of the body: position row `n % 8` over the gathered rows from `8 (n / 8)` on. -/
def piece (V : Vec F S8x512 .f32) (X : ℕ → Vec F S8x512 .f32) (n : ℕ) (hn : n < 256) : View.Piece (Elt F) S8x256x512 .f32 :=
  ⟨Rect.unit (s := S8x256x512) ![n % 8, 8 * (n / 8), 0] S1x8x512.size (piece_inb n hn), addRow V (X (n / 8)) (n % 8) (Nat.mod_lt _ (by decide))⟩

/-- The first `n` stores, the last one first. -/
def pieces (V : Vec F S8x512 .f32) (X : ℕ → Vec F S8x512 .f32) : (n : ℕ) → n ≤ 256 → List (View.Piece (Elt F) S8x256x512 .f32)
  | 0, _ => []
  | n + 1, h => piece V X n h :: pieces V X n (Nat.le_of_succ_le h)

/-- The pieces up to `n`, one by one. -/
theorem mem_pieces (V : Vec F S8x512 .f32) (X : ℕ → Vec F S8x512 .f32) : ∀ (n : ℕ) (h : n ≤ 256) (p), p ∈ pieces V X n h → ∃ k, ∃ hk : k < 256, p = piece V X k hk
  | n + 1, h, p, hp => by
    rcases List.mem_cons.mp hp with rfl | hp
    · exact ⟨n, h, rfl⟩
    · exact mem_pieces V X n _ p hp

/-- Each of the 256 is in the list. -/
theorem piece_mem (V : Vec F S8x512 .f32) (X : ℕ → Vec F S8x512 .f32) (k : ℕ) (hk : k < 256) : ∀ (n : ℕ) (h : n ≤ 256), k < n → piece V X k hk ∈ pieces V X n h
  | n + 1, h, hkn => by
    by_cases e : k = n
    · subst e; exact List.mem_cons_self
    · exact List.mem_cons_of_mem _ (piece_mem V X k hk n _ (by omega))

/-- The block as one function of its index. -/
def blockOf (V : Vec F S8x512 .f32) (X : ℕ → Vec F S8x512 .f32) : Vec F S8x256x512 .f32 := fun y =>
  FloatOps.addf (X ((y 1).val / 8) (idx2 ⟨(y 1).val % 8, Nat.mod_lt _ (by decide)⟩ (y 2))) (V (idx2 (y 0) (y 2)))

/-- The block at an index. -/
theorem blockOf_at (V : Vec F S8x512 .f32) (X : ℕ → Vec F S8x512 .f32) (y : S8x256x512.Idx) (j : ℕ) (r p : Fin 8) (q : Fin 512)
    (h1 : (y 1).val = 8 * j + r.val) (h0 : (y 0 : Fin 8) = p) (h2 : (y 2 : Fin 512) = q) :
    blockOf V X y = FloatOps.addf (X j (idx2 r q)) (V (idx2 p q)) := by
  have hr := r.isLt
  subst h0; subst h2
  have e : (y 1).val / 8 = j := by omega
  subst e
  unfold blockOf
  congr 3
  exact Fin.ext (by show (y 1).val % 8 = r.val; omega)

/-- A piece holds the block's entries. -/
theorem piece_payload (V : Vec F S8x512 .f32) (X : ℕ → Vec F S8x512 .f32) (n : ℕ) (hn : n < 256) (x) :
    (piece V X n hn).2 x = blockOf V X ((piece V X n hn).1.emb x) := by
  have h0 : (x 0).val < 1 := (x 0).isLt
  have h1 : (x 1).val < 8 := (x 1).isLt
  have e0 : (((piece V X n hn).1.emb x) 0).val = n % 8 := by
    show n % 8 + 1 * (x 0).val = n % 8; omega
  have e1 : (((piece V X n hn).1.emb x) 1).val = 8 * (n / 8) + (x 1).val := by
    show 8 * (n / 8) + 1 * (x 1).val = _; omega
  have e2 : ((piece V X n hn).1.emb x) 2 = (x 2 : Fin 512) := Fin.ext (by show 0 + 1 * (x 2).val = _; omega)
  refine (addRow_apply V (X (n / 8)) (n % 8) (Nat.mod_lt _ (by decide)) x).trans ?_
  exact (blockOf_at V X _ (n / 8) (x 1) (⟨n % 8, Nat.mod_lt _ (by decide)⟩ : Fin 8) (x 2) e1 (Fin.ext e0) e2).symm

/-- Every index of the block lies in a piece. -/
theorem pieces_cover (V : Vec F S8x512 .f32) (X : ℕ → Vec F S8x512 .f32) (y : S8x256x512.Idx) : ∃ p ∈ pieces V X 256 le_rfl, y ∈ p.1.set := by
  have h0 : (y 0).val < 8 := (y 0).isLt
  have h1 : (y 1).val < 256 := (y 1).isLt
  have h2 : (y 2).val < 512 := (y 2).isLt
  have hk : 8 * ((y 1).val / 8) + (y 0).val < 256 := by omega
  refine ⟨_, piece_mem V X _ hk 256 le_rfl hk, ?_⟩
  unfold piece
  rw [Rect.mem_set_unit]
  intro a
  fin_cases a
  · show _ ≤ (y 0).val ∧ (y 0).val < _ + 1
    simp; omega
  · show _ ≤ (y 1).val ∧ (y 1).val < _ + 8
    simp; omega
  · show 0 ≤ (y 2).val ∧ (y 2).val < 0 + 512
    omega

/-- The stores leave `blockOf` in the block, whatever was there. -/
theorem read_pieces {κ : Kind} {sp : Space} (v : View sig κ sp S8x256x512 .f32) (f) (V : Vec F S8x512 .f32) (X : ℕ → Vec F S8x512 .f32) :
    v.read (Elt F) (v.writes (Elt F) f (pieces V X 256 le_rfl)) = blockOf V X := by
  funext y
  refine View.read_writes_apply_of_pieces v f (blockOf V X) _ (fun p hp x => ?_) y (pieces_cover V X y)
  obtain ⟨k, hk, rfl⟩ := mem_pieces V X 256 le_rfl p hp
  exact piece_payload V X k hk x

/-! ## What the runs found -/

/-- Eight rows from a multiple of eight lie in the array. -/
theorem rows_inb (j : ℕ) : ∀ a, (![8 * (j % 32), 0] : Fin 2 → ℕ) a + S8x512.size a ≤ S256x512.size a
  | ⟨0, _⟩ => show 8 * (j % 32) + 8 ≤ 256 by omega
  | ⟨1, _⟩ => show 0 + 512 ≤ 512 by omega

/-- Gathered rows `8 j` to `8 j + 7`, read out of the row scratch's contents. -/
def rowsRead (M : Memref sig .tc .vmem S256x512 .f32) (f : M.view.ty.Contents (Elt F)) (j : ℕ) : Vec F S8x512 .f32 :=
  M.view.readAt (Elt F) (Rect.unit (s := S256x512) ![8 * (j % 32), 0] S8x512.size (rows_inb j)).toLoadRect f

/-- The point's eight rows of the position scratch. -/
def posRead (M : Memref sig .tc .vmem S256x512 .f32) (i : grid1.Coords) (f : M.view.ty.Contents (Elt F)) : Vec F S8x512 .f32 :=
  M.view.readAt (Elt F) (Rect.unit (s := S256x512) (k1_off1 i) S8x512.size (k1_off1_inb i)).toLoadRect f

/-- Eight gathered rows, as a read of the scratch finds them. -/
theorem rowsRead_eq (M : Memref sig .tc .vmem S256x512 .f32) (f : M.view.ty.Contents (Elt F)) (xs : Vec F S256x512 .f32)
    (h : M.view.read (Elt F) f = xs) (j : Fin 256) (q : Fin 512) :
    rowsRead M f (j.val / 8) (idx2 ⟨j.val % 8, Nat.mod_lt _ (by decide)⟩ q) = xs (rowAt j q) := by
  subst h
  unfold rowsRead
  rw [View.readAt_apply]
  congr 1
  funext a
  have := j.isLt
  fin_cases a
  · exact Fin.ext (by show 8 * (j.val / 8 % 32) + 1 * (j.val % 8) = j.val; omega)
  · exact Fin.ext (by show 0 + 1 * q.val = q.val; omega)

/-- A point's eight rows of the position table, as a read of the scratch finds them. -/
theorem posRead_eq (M : Memref sig .tc .vmem S256x512 .f32) (i : grid1.Coords) (f : M.view.ty.Contents (Elt F)) (ps : Vec F S256x512 .f32)
    (h : M.view.read (Elt F) f = ps) (p : Fin 8) (q : Fin 512) (r : Fin 256) (hr : r.val = 8 * (i 0).val + p.val) :
    posRead M i f (idx2 p q) = ps (rowAt r q) := by
  subst h
  unfold posRead
  rw [View.readAt_apply]
  congr 1
  funext a
  fin_cases a
  · refine Fin.ext ?_
    show k1_off1 i 0 + 1 * p.val = r.val
    rw [k1_off1_eq]; show 8 * (i 0).val + 1 * p.val = _; omega
  · refine Fin.ext ?_
    show k1_off1 i 1 + 1 * q.val = q.val
    rw [k1_off1_eq]; show 0 + 1 * q.val = _; omega

/-- The position of row `a` of grid point `i`'s block. -/
def posRow (i : grid1.Coords) (a : Fin 8) : Fin 256 := ⟨8 * (i 0).val + a.val, by have h : (i 0).val < 32 := (i 0).isLt; have := a.isLt; omega⟩

/-- Grid point `i`'s block, of the gathered rows `xs` and the position table `ps`. -/
def sumBlock (i : grid1.Coords) (xs ps : Vec F S256x512 .f32) : Vec F S8x256x512 .f32 := fun y =>
  FloatOps.addf (xs (rowAt (y 1) (y 2))) (ps (rowAt (posRow i (y 0)) (y 2)))

/-- The block from the scratch buffers' contents. -/
theorem blockOf_eq (i : grid1.Coords) (M N : Memref sig .tc .vmem S256x512 .f32) (f : M.view.ty.Contents (Elt F)) (g : N.view.ty.Contents (Elt F))
    (xs ps : Vec F S256x512 .f32) (hx : M.view.read (Elt F) f = xs) (hp : N.view.read (Elt F) g = ps) :
    blockOf (posRead N i g) (rowsRead M f) = sumBlock i xs ps := by
  funext y
  unfold blockOf sumBlock
  rw [rowsRead_eq M f xs hx (y 1) (y 2), posRead_eq N i g ps hp (y 0) (y 2) (posRow i (y 0)) rfl]

/-- A later point's list is these pieces. -/
theorem later_pieces (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : ¬isFirst i) (xs ps : Vec F S256x512 .f32) (fx : BufOf (F := F) c srcM) :
    (laterRun c i arg2 harg2 arg3 harg3 arg4 harg4 hc xs ps fx).1
      = pieces (posRead arg4 i (harg4.unread ps)) (rowsRead arg3 (harg3.unread xs)) 256 le_rfl := by
  sl_kernel_rfl

/-- So is the first point's. -/
theorem first_pieces (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : isFirst i) (fx : BufOf (F := F) c srcM) :
    (firstRun c i arg2 harg2 arg3 harg3 arg4 harg4 hc fx).1
      = pieces (posRead arg4 i (arg4.view.writes (Elt F) arg4.view.junk (firstRun c i arg2 harg2 arg3 harg3 arg4 harg4 hc fx).2.2.1))
          (rowsRead arg3 (arg3.view.writes (Elt F) arg3.view.junk (firstRun c i arg2 harg2 arg3 harg3 arg4 harg4 hc fx).2.1)) 256 le_rfl := by
  sl_kernel_rfl

end Cert.Proof.Gather

end
-- ==== Proof.TcRegion.lean ====
/-
  The TensorCore region: what it is entered with and what it leaves. The scratch buffers carry the gathered rows and
  the position table from the first point on; every point writes its own block of the result, and the blocks cover it.
-/
module

public import proofs.«01_k».proof.Proof.TcBlock
public import Idealize.ShloMosaic.Lib.Pipeline.RegionArrays

@[expose] public section

set_option maxRecDepth 16384

noncomputable section

namespace Cert.Proof.Gather

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## What the runs leave in the scratch buffers -/

/-- What the first point leaves in the row scratch reads as the rows it fetched. -/
theorem first_rows (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : isFirst i) (fx : BufOf (F := F) c srcM) (f) :
    arg3.view.read (Elt F) (arg3.view.writes (Elt F) f (firstRun c i arg2 harg2 arg3 harg3 arg4 harg4 hc fx).2.1) = fx := by
  funext y
  refine View.read_writes_apply_of_pieces arg3.view f fx _ (fun p hp x => ?_) y ⟨_, List.mem_singleton.mpr rfl, ?_⟩
  · obtain rfl := List.mem_singleton.mp hp
    show fx x = fx _
    congr 1; funext a; exact Fin.ext (by show (x a).val = 0 + 1 * (x a).val; omega)
  · rw [Rect.set_whole]; exact Finset.mem_univ _

/-- What it leaves in the position scratch reads as the position table. -/
theorem first_pos (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : isFirst i) (fx : BufOf (F := F) c srcM) (f) :
    arg4.view.read (Elt F) (arg4.view.writes (Elt F) f (firstRun c i arg2 harg2 arg3 harg3 arg4 harg4 hc fx).2.2.1) = k1_pay3 := by
  funext y
  refine View.read_writes_apply_of_pieces arg4.view f k1_pay3 _ (fun p hp x => ?_) y ⟨_, List.mem_singleton.mpr rfl, ?_⟩
  · obtain rfl := List.mem_singleton.mp hp
    show k1_pay3 x = k1_pay3 _
    congr 1; funext a
    fin_cases a <;> exact Fin.ext (by show (x _).val = 0 + 1 * (x _).val; omega)
  · rw [Rect.mem_set_unit]
    intro a
    have := (y a).isLt
    fin_cases a
    · exact ⟨Nat.zero_le _, by show (y 0).val < 0 + 256; have h : (y 0).val < 256 := (y 0).isLt; omega⟩
    · exact ⟨Nat.zero_le _, by show (y 1).val < 0 + 512; have h : (y 1).val < 512 := (y 1).isLt; omega⟩

/-- The block of the first point. -/
theorem first_block (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : isFirst i) (fx : BufOf (F := F) c srcM) (f) :
    arg2.view.read (Elt F) (arg2.view.writes (Elt F) f (firstRun c i arg2 harg2 arg3 harg3 arg4 harg4 hc fx).1) = sumBlock i fx k1_pay3 := by
  rw [first_pieces, read_pieces]
  exact blockOf_eq i arg3 arg4 _ _ fx k1_pay3 (first_rows c i arg2 harg2 arg3 harg3 arg4 harg4 hc fx _) (first_pos c i arg2 harg2 arg3 harg3 arg4 harg4 hc fx _)

/-- The block of a later point. -/
theorem later_block (c : Dev nD) (i : grid1.Coords) (arg2 : Memref sig .tc .vmem S8x256x512 .f32) (harg2 : arg2.IsWhole)
    (arg3 : Memref sig .tc .vmem S256x512 .f32) (harg3 : arg3.IsWhole) (arg4 : Memref sig .tc .vmem S256x512 .f32) (harg4 : arg4.IsWhole)
    (hc : ¬isFirst i) (xs ps : Vec F S256x512 .f32) (fx : BufOf (F := F) c srcM) (f) :
    arg2.view.read (Elt F) (arg2.view.writes (Elt F) f (laterRun c i arg2 harg2 arg3 harg3 arg4 harg4 hc xs ps fx).1) = sumBlock i xs ps := by
  rw [later_pieces, read_pieces]
  exact blockOf_eq i arg3 arg4 _ _ xs ps (harg3.read_unread xs) (harg4.read_unread ps)

/-! ## The region's proof data -/

variable (m : (ℓ : Loc nD τ sig) → Buf (Elt F) ℓ)

/-- The cell of the body's own transfer. -/
abbrev fetchCell (d : Dev nD) : GSem nD τ sig := ((d : Thread nD τ), SemLoc.dma cc1_scratch2.sem)

/-- The invariant before point `n`: before the first the scratch at anything, afterwards the gathered rows and the
    position table; the body's own semaphore at zero and the gathered rows in the device's memory throughout. -/
def carried (d : Dev nD) : ℕ → sProp 𝕄
  | 0 => iprop(((∃ x, owns (d : Thread nD τ) rowsM fullShare x) ∗ (∃ x, owns (d : Thread nD τ) posM fullShare x)) ∗ semVal (fetchCell d) 0 ∗ holds d srcM (gath m d))
  | _ + 1 => iprop((owns (d : Thread nD τ) rowsM fullShare (gath m d) ∗ owns (d : Thread nD τ) posM fullShare k1_pay3) ∗ semVal (fetchCell d) 0 ∗ holds d srcM (gath m d))

/-- What the region's waits may have recorded: nothing above the calls before it. -/
abbrev recorded (d : Dev nD) : Set (SemLoc sig × HIx 1) := {p | (K (F := F)).lev (T d, p.1) p.2 ≤ 8}

/-- The region's proof data: the result as launched, each point's block, the invariant; nothing owed. -/
def dat (d : Dev nD) : Dat τ (Elt F) (HIx 1) ℕ UU ℕ cfg1 d where
  A w := m ((d : Thread nD τ).loc (Pipeline.arrRef spec1 w))
  after w t := match w with
    | ⟨0, _⟩ => sumBlock (grid1.coords t) (gath m d) k1_pay3
  Φ t := carried m d t.val
  q _ := fullShare
  owed _ := 0
  recorded _ := recorded (F := F) d

/-- The output block after a point. -/
theorem after_zero (d : Dev nD) (t : Fin cfg1.N) : (dat m d).after 0 t = sumBlock (grid1.coords t) (gath m d) k1_pay3 := by dsimp only [dat]

/-- The output's staging memref at point `t`. -/
abbrev outM (t : Fin cfg1.N) : Memref sig .tc .vmem S8x256x512 .f32 := win1_0.stage (cfg1.slots t 0)

/-! ## The body at every point -/

/-- What a point starts with. -/
def bodyPre (d : Dev nD) (t : Fin cfg1.N) : sProp 𝕄 :=
  iprop((dat m d).Φ t.castSucc ∗ (dat m d).owesAt none t.castSucc
    ∗ (∃ x, owns (d : Thread nD τ) (outM t) fullShare ((dat m d).before 0 t x)))

/-- What a point ends with. -/
def bodyPost (d : Dev nD) (t : Fin cfg1.N) : sProp 𝕄 :=
  iprop((dat m d).Φ t.succ ∗ (dat m d).owesAt none t.succ
    ∗ owns (d : Thread nD τ) (outM t) fullShare ((dat m d).after 0 t))

/-- A wait at index `none` stays within what the region may record. -/
theorem within (d : Dev nD) (t t' : Fin (cfg1.N + 1)) (W W' : Waits sig (HIx 1)) (hW : ∀ p ∈ W, p ∈ (dat m d).bound none t)
    (h : ∀ p ∈ W', p ∈ W ∨ p.2 = none) : ∀ p ∈ W', p ∈ (dat m d).bound none t' := by
  intro p hp
  rcases h p hp with h | h
  · exact hW p h
  · exact .inl (by show (K (F := F)).lev (T d, p.1) p.2 ≤ _; rw [h]; exact Nat.zero_le _)

set_option maxHeartbeats 4000000 in
theorem body_at (d : Dev nD) (t : Fin cfg1.N) :
    bodyPre m d t ⊢ wp frame (wpE (defs₀ (F := F)) Variants.none d none) Set.univ (bodyAt1 t) (fun _ => bodyPost m d t) := by
  unfold bodyPre bodyPost bodyAt1
  rw [show (dat m d).Φ t.succ = carried m d (t.val + 1) from rfl, show (dat m d).Φ t.castSucc = carried m d t.val from rfl, after_zero]
  unfold Dat.owesAt Pipeline.owesWithin
  rw [show (dat m d).owed t.castSucc = 0 from rfl, show (dat m d).owed t.succ = 0 from rfl]
  by_cases hz : t.val = 0
  · rw [hz]
    show iprop(((((∃ x, owns (d : Thread nD τ) rowsM fullShare x) ∗ (∃ x, owns (d : Thread nD τ) posM fullShare x)) ∗ semVal (fetchCell d) 0 ∗ holds d srcM (gath m d))) ∗ _) ⊢ _
    unfold carried
    iintro ⟨⟨⟨HS0, HS1⟩, Hq, Hx⟩, ⟨%W, %hW, HW⟩, ⟨%x0, H0⟩⟩
    iapply ((firstRun d (grid1.coords t) _ _ _ _ _ _ ((isFirst_iff t).mpr hz) (gath m d)).2.2.2 W _)
    isplitl [H0]; · iexists _; iexact H0
    isplitl [HS0]; · iexact HS0
    isplitl [HS1]; · iexact HS1
    isplitl [Hq]; · iexact Hq
    isplitl [Hx]; · iexact Hx
    isplitl [HW]; · iexact HW
    iintro ⟨⟨%e0, H0⟩, ⟨%es0, HS0⟩, ⟨%es1, HS1⟩, Hq, Hx, ⟨%W', %hW', HW'⟩⟩
    isplitl [HS0 HS1 Hq Hx]
    · isplitl [HS0 HS1]
      · isplitl [HS0]
        · unfold owns; iexists _; isplitr
          swap; · iexact HS0
          ipureintro; exact first_rows d _ _ _ _ _ _ _ _ _ _
        unfold owns; iexists _; isplitr
        swap; · iexact HS1
        ipureintro; exact first_pos d _ _ _ _ _ _ _ _ _ _
      isplitl [Hq]; · iexact Hq
      iexact Hx
    isplitl [HW']
    · iexists W'; isplitr; · ipureintro; exact within m d _ _ W W' hW hW'
      iexact HW'
    unfold owns; iexists _; isplitr
    swap; · iexact H0
    ipureintro; exact first_block d _ _ _ _ _ _ _ _ _ _
  · obtain ⟨n, hn⟩ : ∃ n, t.val = n + 1 := ⟨t.val - 1, by omega⟩
    rw [hn]
    unfold carried
    iintro ⟨⟨⟨HS0, HS1⟩, Hq, Hx⟩, ⟨%W, %hW, HW⟩, ⟨%x0, H0⟩⟩
    iapply ((laterRun d (grid1.coords t) _ _ _ _ _ _ (fun h => hz ((isFirst_iff t).mp h)) _ _ (gath m d)).2 W _)
    isplitl [H0]; · iexists _; iexact H0
    isplitl [HS0]; · iexact HS0
    isplitl [HS1]; · iexact HS1
    isplitl [Hq]; · iexact Hq
    isplitl [Hx]; · iexact Hx
    isplitl [HW]; · iexact HW
    iintro ⟨⟨%e0, H0⟩, HS0, HS1, Hq, Hx, ⟨%W', %hW', HW'⟩⟩
    isplitl [HS0 HS1 Hq Hx]
    · isplitl [HS0 HS1]
      · isplitl [HS0]; · iexact HS0
        iexact HS1
      isplitl [Hq]; · iexact Hq
      iexact Hx
    isplitl [HW']
    · iexists W'; isplitr; · ipureintro; exact within m d _ _ W W' hW hW'
      iexact HW'
    unfold owns; iexists _; isplitr
    swap; · iexact H0
    ipureintro; exact later_block d _ _ _ _ _ _ _ _ _ _ _ _

/-- The body table's row at point `t`'s slots is the body as `bodyAt1` spells it. -/
theorem defs₀_at (t : Fin cfg1.N) : defs₀ (F := F) .tc cfg1.body (cfg1.bodyArgs t (cfg1.slots t)) = bodyAt1 t := by
  rfl

/-- Every point's body keeps the region's invariant. -/
theorem body_holds (d : Dev nD) : BodyObligation (dat m d) (defs₀ (F := F)) Variants.none none Set.univ := fun t => by
  rw [bigSep_W1, bigSep_W1, defs₀_at]
  exact triple_restated (body_at m d t) rfl .rfl fun _ => .rfl

/-! ## The result -/

/-- The result: element (i, j, k) is row j of the gathered rows plus row i of the position table, in column k. -/
def sumAll (d : Dev nD) : Vec F S256x256x512 .f32 := fun y =>
  FloatOps.addf (gath m d (rowAt (y 1) (y 2))) (k1_pay3 (rowAt (y 0) (y 2)))

/-- A point's coordinate is its number. -/
theorem coords_zero (t : Fin cfg1.N) : (grid1.coords t 0).val = t.val := by
  have ht : t.val < 32 := Nat.lt_of_lt_of_eq t.isLt N_1
  have e0 : (grid1.coords t 0).val = t.val / 1 % 32 := Pipeline.Grid.coords_val t 0 (by decide) rfl
  omega

/-- Point `t`'s block of the result: rows `8 t … 8 t + 7`, whole in the other two axes. -/
theorem block_at : ∀ t : Fin cfg1.N, (win1_0.index t 0 * win1_0.size 0 = 8 * t.val ∧ win1_0.index t 1 * win1_0.size 1 = 0 ∧ win1_0.index t 2 * win1_0.size 2 = 0)
    ∧ win1_0.xsize (grid1.coords t) 0 = 8 ∧ win1_0.xsize (grid1.coords t) 1 = 256 ∧ win1_0.xsize (grid1.coords t) 2 = 512 :=
  (by decide +kernel : ∀ t : Fin grid1.N, (win1_0.index t 0 * win1_0.size 0 = 8 * t.val ∧ win1_0.index t 1 * win1_0.size 1 = 0 ∧ win1_0.index t 2 * win1_0.size 2 = 0)
    ∧ win1_0.xsize (grid1.coords t) 0 = 8 ∧ win1_0.xsize (grid1.coords t) 1 = 256 ∧ win1_0.xsize (grid1.coords t) 2 = 512)

/-- What point `t` writes back is block `t` of the result. -/
theorem flushed_eq (d : Dev nD) (t : Fin cfg1.N) :
    (dat m d).flushed 0 t = (win1_0.blk t).view.read (Elt F) (sumAll m d) := by
  show (cfg1.win 0).cut (grid1.coords t) ((dat m d).after 0 t) = _
  rw [after_zero]
  obtain ⟨⟨e0, e1, e2⟩, -⟩ := block_at t
  have hc := coords_zero t
  funext x
  show FloatOps.addf (gath m d (rowAt _ _)) (k1_pay3 (rowAt _ _)) = FloatOps.addf (gath m d (rowAt _ _)) (k1_pay3 (rowAt _ _))
  have x1 : ((cfg1.win 0).xinj (grid1.coords t) x 1).val = ((win1_0.blk t).view.emb x 1).val := by
    show (x 1).val = win1_0.index t 1 * win1_0.size 1 + 1 * (x 1).val; omega
  have x2 : ((cfg1.win 0).xinj (grid1.coords t) x 2).val = ((win1_0.blk t).view.emb x 2).val := by
    show (x 2).val = win1_0.index t 2 * win1_0.size 2 + 1 * (x 2).val; omega
  have x0 : (posRow (grid1.coords t) ((cfg1.win 0).xinj (grid1.coords t) x 0)).val = ((win1_0.blk t).view.emb x 0).val := by
    show 8 * (grid1.coords t 0).val + (x 0).val = win1_0.index t 0 * win1_0.size 0 + 1 * (x 0).val; omega
  congr 3 <;> apply Fin.ext
  · exact x1
  · exact x2
  · exact x0
  · exact x2

/-- The blocks cover the result. -/
theorem result_cover (y : S256x256x512.Idx) :
    ∃ t : Fin cfg1.N, (cfg1.win 0).flush t = true ∧ y ∈ ((cfg1.win 0).blk t).view.set := by
  have h0 : (y 0).val < 256 := (y 0).isLt
  have h1 : (y 1).val < 256 := (y 1).isLt
  have h2 : (y 2).val < 512 := (y 2).isLt
  let t : Fin cfg1.N := ⟨(y 0).val / 8, by show _ < grid1.N; rw [N_1]; omega⟩
  refine ⟨t, flush1_0 _, ?_⟩
  show y ∈ ((View.whole main_v1).slice (win1_0.rect t)).set
  rw [View.set_slice_whole, Rect.mem_set_unit]
  obtain ⟨⟨e0, e1, e2⟩, s0, s1, s2⟩ := block_at t
  intro a
  show win1_0.index t a * win1_0.size a ≤ (y a : Nat) ∧ (y a : Nat) < win1_0.index t a * win1_0.size a + win1_0.xsize (grid1.coords t) a
  have ht : t.val = (y 0).val / 8 := rfl
  fin_cases a
  · show win1_0.index t 0 * win1_0.size 0 ≤ (y 0 : Nat) ∧ (y 0 : Nat) < win1_0.index t 0 * win1_0.size 0 + win1_0.xsize (grid1.coords t) 0
    rw [e0, s0]; omega
  · show win1_0.index t 1 * win1_0.size 1 ≤ (y 1 : Nat) ∧ (y 1 : Nat) < win1_0.index t 1 * win1_0.size 1 + win1_0.xsize (grid1.coords t) 1
    rw [e1, s1]; omega
  · show win1_0.index t 2 * win1_0.size 2 ≤ (y 2 : Nat) ∧ (y 2 : Nat) < win1_0.index t 2 * win1_0.size 2 + win1_0.xsize (grid1.coords t) 2
    rw [e2, s2]; omega

/-- The blocks together are the result. -/
theorem result_eq (d : Dev nD) : (dat m d).arrAt 0 cfg1.N = sumAll m d :=
  (dat m d).arrAt_eq_of_cover 0 (sumAll m d) (fun t _ => flushed_eq m d t) result_cover

/-! ## The region -/

/-- The region's configuration is admissible. -/
abbrev adm : (p : Fin 1) → (pcfgs (F := F) p).Adm := fun p => (cfgs p).toPCfg_adm
/-- The proof data of the program's one region. -/
def pdats (p : Fin 1) (d : Dev nD) : Dat τ (Elt F) (HIx 1) ℕ UU ℕ (Pipeline.pin (pcfgs (F := F)) (adm (F := F)) p) d := match p with
  | ⟨0, _⟩ => dat m d

/-- The body's own semaphores: one. -/
abbrev osem : Fin 1 → SemLoc sig := fun j => ![SemLoc.dma cc1_scratch2.sem] j

/-- The region's own semaphore is the fetch's. -/
theorem ownSems0_eq (d : Dev nD) : (Pipeline.ownSems0 osem d : sProp 𝕄) = semVal (fetchCell d) 0 :=
  Pipeline.ownSems0_eq_of_list d osem [0] (by decide) (by decide)

/-- It is a scoped semaphore and no staging cell. -/
theorem own_sems : Pipeline.OwnSemFacts spec1 osem := by decide

/-- The region is entered with the result as launched, the gathered rows, nothing owed. -/
def regionPre (d : Dev nD) : sProp 𝕄 :=
  iprop((rLoc d ↦{fullShare} m (rLoc d)) ∗ holds d srcM (gath m d) ∗ ∃ W, ⌜(K (F := F)).WBelow (T d) W 8⌝ ∗ owes (T d) 0 W)
/-- It leaves the result at the sums. -/
def regionPost (d : Dev nD) : sProp 𝕄 :=
  iprop((rLoc d ↦{fullShare} sumAll m d) ∗ holds d srcM (gath m d) ∗ ∃ W, ⌜(K (F := F)).WBelow (T d) W 8⌝ ∗ owes (T d) 0 W)

/-- The region's arrays, one by one. -/
theorem arrays_at (d : Dev nD) (G : (w : Fin cfg1.W) → Buf (Elt F) ((cfg1.win w).arr.view.loc (d.tc : Thread nD τ))) :
    ((dat m d).arrays G : sProp 𝕄) = (rLoc d ↦{fullShare} G 0) := by
  rw [show (dat m d).arrays G = _ from Pipeline.arrays_eq (Pipeline.pin (pcfgs (F := F)) (adm (F := F))) (pdats m) 0 d arr_whole1 ((dat m d).share_full fun _ => rfl) G, bigSep_W1]

/-- The region as the library runs it. -/
def region : Pipeline.RegionSeg (pcfgs (F := F)) (adm (F := F)) (pdats m) none (defs₀ (F := F)) Variants.none ((K (F := F)).L (N := 1)) (K (F := F)).lev 0 where
  win := launch1.win.to₀
  block_pos := block_pos1
  stage_whole := stage_whole1
  K := Fin 1
  osem := osem
  ho := own_sems
  hbody d := (body_holds m d).loose
  hwaits := Pipeline.hwaits_of_owed_zero (pcfgs (F := F)) (adm (F := F)) (pdats m) none _ _ 0 fun _ _ => rfl
  pre := regionPre m
  post := regionPost m
  X d := iprop(semVal (fetchCell d) 0 ∗ holds d srcM (gath m d))
  Y d := holds d srcM (gath m d)
  Z _ := BI.emp
  hentry d := by
    rw [ownSems0_eq, Pipeline.prefHeld_of_none _ rfl]
    show _ ⊢ |={Set.univ}=> iprop((dat m d).arrays (fun w => (dat m d).arrAt w 0) ∗ BI.emp ∗ (dat m d).owesAt none 0 ∗ _ ∗ _)
    rw [arrays_at, show (dat m d).arrAt 0 0 = m (rLoc d) from rfl]
    unfold regionPre Dat.owesAt Pipeline.owesWithin
    iintro ⟨⟨Hr, Hx, HO⟩, Hs, -⟩
    imodintro
    isplitl [Hr]; · iexact Hr
    isplitr; · iempintro
    isplitl [HO]
    · icases HO with ⟨%W, %hW, HO⟩; iexists W; isplitr; · ipureintro; exact fun p hp => Or.inl (hW p hp)
      iexact HO
    isplitl [Hs Hx]
    · isplitl [Hs]; · iexact Hs
      iexact Hx
    iempintro
  hin d := by
    rw [Pipeline.prefHeld_of_none _ rfl]
    show _ ⊢ carried m d 0
    unfold carried
    rw [show (Pipeline.scopedRest (pcfgs (F := F) 0).spec d : sProp 𝕄) = _ from scopedRest1_eq d]
    iintro ⟨⟨Hs, Hx⟩, -, ⟨%f0, H0⟩, ⟨%f1, H1⟩⟩
    isplitl [H0 H1]
    · isplitl [H0]
      · iexists f0; rw [owns_whole]; iexact H0
      iexists f1; rw [owns_whole]; iexact H1
    isplitl [Hs]; · iexact Hs
    iexact Hx
  hout d := by
    show carried m d cfg1.N ⊢ _
    rw [show cfg1.N = 31 + 1 from N_1, ownSems0_eq]
    unfold carried
    rw [show (Pipeline.scopedRest (pcfgs (F := F) 0).spec d : sProp 𝕄) = _ from scopedRest1_eq d, owns_whole, owns_whole]
    iintro ⟨⟨H0, H1⟩, Hs, Hx⟩
    isplitl [Hx]; · iexact Hx
    isplitl [Hs]; · iexact Hs
    isplitl [H0]; · iexists _; iexact H0
    iexists _; iexact H1
  hexit d := by
    show iprop((dat m d).arrays ((dat m d).arrAt · cfg1.N) ∗ (dat m d).owesAt none (Fin.last cfg1.N) ∗ _ ∗ _) ⊢ _
    rw [arrays_at, result_eq]
    unfold regionPost Dat.owesAt Pipeline.owesWithin
    iintro ⟨Hr, ⟨%W, %hW, HO⟩, Hx, -⟩
    imodintro
    isplitl [Hr]; · iexact Hr
    isplitl [Hx]; · iexact Hx
    iexists W; isplitr
    · ipureintro; intro p hp
      rcases hW hp with h | ⟨w, s, h⟩
      · exact h
      · rw [h]; exact Nat.zero_le _
    iexact HO

end Cert.Proof.Gather

end
-- ==== Proof.Launch.lean ====
/-
  The whole program's run: what the SparseCore call hands its tasks and takes back, the launch's ghost state, @main on
  the TensorCore — the call, then the region that adds the positional table — and the final memory.
-/
module

public import proofs.«01_k».proof.Proof.Tile
public import proofs.«01_k».proof.Proof.TcRegion

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The three arrays dealt to the 32 tasks -/

/-- The number of the task on subcore `s` of SparseCore `c`. -/
def taskAt (c : Fin 2) (s : Fin 16) : Fin 32 := ⟨2 * s.val + c.val, by have := c.isLt; have := s.isLt; omega⟩

/-- A family over the tasks' numbers is one over the SparseCores and their subcores. -/
theorem bigSep_tasks (Φ : Fin 32 → sProp 𝕄) :
    bigSep Finset.univ Φ = bigSep Finset.univ fun c : Fin 2 => bigSep Finset.univ fun s : Fin 16 => Φ (taskAt c s) := by
  rw [bigSep_univ_equiv (finProdFinEquiv : Fin 16 × Fin 2 ≃ Fin (16 * 2)) Φ, BI.bigSep_univ_prod, Pipeline.bigSep_univ_comm]
  refine bigSep_congr fun c _ => bigSep_congr fun s _ => congrArg Φ (Fin.ext ?_)
  show c.val + 2 * s.val = 2 * s.val + c.val
  omega

/-- The gathered array, held whole, is every task's rows of it. -/
theorem rows_dealt (d : Dev nD) (f : Buf (Elt F) (oLoc d)) :
    (oLoc d ↦{fullShare} f : sProp 𝕄) = bigSep Finset.univ fun w : Fin 32 => oLoc d ↦[rowsOf w]{fullShare} f := by
  have hcov : (Finset.univ : Finset (Fin 32)).biUnion rowsOf = Finset.univ := by
    ext y
    have h0 : (y 0).val < 256 := (y 0).isLt
    simp only [Finset.mem_biUnion, Finset.mem_univ, true_and, iff_true]
    exact ⟨⟨(y 0).val / 8, by omega⟩, Finset.mem_filter.mpr ⟨Finset.mem_univ _, rfl⟩⟩
  rw [← pointsTo_biUnion Finset.univ (ℓ := oLoc d) rowsOf (fun a _ b _ h => Finset.disjoint_left.mpr fun y ha hb =>
    h (Fin.ext ((Finset.mem_filter.mp ha).2.symm.trans (Finset.mem_filter.mp hb).2))), hcov]; try rfl

/-- What the TensorCore keeps of the list and of the table while the tasks run. -/
def kept (d : Dev nD) : sProp 𝕄 :=
  iprop((iLoc d ↦{remnant fullShare 32} m (iLoc d)) ∗ xLoc d ↦{remnant fullShare 32} m (xLoc d))

/-- Three pairs and a rest, the first parts together. -/
theorem regroup (A A' B B' C : sProp 𝕄) : iprop((A ∗ A') ∗ (B ∗ B') ∗ C) = iprop((A ∗ B ∗ C) ∗ A' ∗ B') := by
  have h₁ : iprop((A ∗ A') ∗ (B ∗ B') ∗ C) ⊢ iprop((A ∗ B ∗ C) ∗ A' ∗ B') := by
    iintro ⟨⟨Ha, Ha'⟩, ⟨Hb, Hb'⟩, Hc⟩
    isplitl [Ha Hb Hc]
    · isplitl [Ha]; · iexact Ha
      isplitl [Hb]; · iexact Hb
      iexact Hc
    isplitl [Ha']; · iexact Ha'
    iexact Hb'
  have h₂ : iprop((A ∗ B ∗ C) ∗ A' ∗ B') ⊢ iprop((A ∗ A') ∗ (B ∗ B') ∗ C) := by
    iintro ⟨⟨Ha, Hb, Hc⟩, Ha', Hb'⟩
    isplitl [Ha Ha']
    · isplitl [Ha]; · iexact Ha
      iexact Ha'
    isplitl [Hb Hb']
    · isplitl [Hb]; · iexact Hb
      iexact Hb'
    iexact Hc
  exact BI.Entails.antisymm h₁ h₂

/-- The list, the table and the gathered array are every task's part and what the TensorCore keeps. -/
theorem dealt (d : Dev nD) (f : Buf (Elt F) (oLoc d)) :
    (iprop((iLoc d ↦{fullShare} m (iLoc d)) ∗ (xLoc d ↦{fullShare} m (xLoc d)) ∗ oLoc d ↦{fullShare} f) : sProp 𝕄)
      = iprop((bigSep Finset.univ fun c : Fin 2 => bigSep Finset.univ fun s : Fin 16 => part m d (taskAt c s) f) ∗ kept m d) := by
  rw [← bigSep_tasks (fun w => part m d w f)]
  unfold part kept
  rw [bigSep_sep', bigSep_sep', ← rows_dealt, pointsTo_cut (m (iLoc d)) fullShare 32, pointsTo_cut (m (xLoc d)) fullShare 32]
  exact regroup _ _ _ _ _

/-! ## What the call's handshakes carry -/

/-- The task of the call's SparseCore `c` and subcore `i`. -/
abbrev callTask (c : Fin ((K (F := F)).nCore 0)) (i : Fin ((K (F := F)).nSub 0)) : Fin 32 :=
  taskAt (Fin.cast nCore_zero c) (Fin.cast nSub_zero i)

instance part_storable (d : Dev nD) (w : Fin 32) (f : Buf (Elt F) (oLoc d)) : BI.Storable (upEmb : UEmb _ 𝕄) (part m d w f) := by
  unfold part; infer_instance

/-- Each SparseCore is started with its tasks' parts and ends with them, the rows gathered; so is each task. -/
def P : (K (F := F)).Pay (nD := nD) (Val := Elt F) (Name := ℕ) (U := UU) where
  st := fun q d c => match q with | 0 => bigSep Finset.univ fun i : Fin ((K (F := F)).nSub 0) => part m d (callTask c i) (m (oLoc d))
  dn := fun q d c => match q with | 0 => bigSep Finset.univ fun i : Fin ((K (F := F)).nSub 0) => part m d (callTask c i) (gath m d)
  go := fun q d c i => match q with | 0 => part m d (callTask c i) (m (oLoc d))
  td := fun q d c i => match q with | 0 => part m d (callTask c i) (gath m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => part m d (callTask c i) (m (oLoc d))))
  dn q d c := match q with
    | 0 => (inferInstance : BI.Storable (upEmb : UEmb _ 𝕄) (bigSep Finset.univ fun i : Fin ((K (F := F)).nSub 0) => part m d (callTask c i) (gath m d)))
  go q d c i := match q with | 0 => part_storable m d (callTask c i) (m (oLoc d))
  td q d c i := match q with | 0 => part_storable m d (callTask c i) (gath m d)

/-- What the call is handed goes to the tasks, and what they hand back is what the call returns. -/
theorem vecSplit : (K (F := F)).VecSplit' (P m) 0 := by
  intro d c
  show (bigSep Finset.univ fun i : Fin ((K (F := F)).nSub 0) => part m d (callTask c i) (m (oLoc d))) ⊢ |={Set.univ}=> iprop(
      (bigSep Finset.univ fun i : Fin ((K (F := F)).nSub 0) => part m d (callTask c i) (m (oLoc d)))
      ∗ ((bigSep Finset.univ fun i : Fin ((K (F := F)).nSub 0) => part m d (callTask c i) (gath m d))
          -∗ bigSep Finset.univ fun i : Fin ((K (F := F)).nSub 0) => part m d (callTask c i) (gath m d)))
  iintro H; imodintro
  isplitl [H]; · iexact H
  iintro H; iexact H

/-- What the call asks for at its start, for all cores. -/
theorem started (d : Dev nD) : (bigSep Finset.univ fun c : Fin ((K (F := F)).nCore 0) => (P m).st 0 d c)
    = bigSep Finset.univ fun c : Fin 2 => bigSep Finset.univ fun s : Fin 16 => part m d (taskAt c s) (m (oLoc d)) := rfl
/-- What it hands back at its end, for all cores. -/
theorem finished (d : Dev nD) : (bigSep Finset.univ fun c : Fin ((K (F := F)).nCore 0) => (P m).dn 0 d c)
    = bigSep Finset.univ fun c : Fin 2 => bigSep Finset.univ fun s : Fin 16 => part m d (taskAt c s) (gath m d) := rfl

section Run

variable [FloatOps F]

/-! ## The tasks' obligation -/

/-- The grid's coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's program is the body at the tile's place. -/
theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _)
          oV (Memref.isWhole_whole _) sV (Memref.isWhole_whole _) rV (Memref.isWhole_whole _) cc0_scratch2 cc0_scoped0 cc0_scoped1) ⟨⟩ c s := rfl

/-- A weaker pair beside the same debts. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- Every tile's body does what the call promises. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hpre d (coordsV ⟨_, hci.1⟩ ⟨_, hci.2⟩) O W hO).trans (wp_mono frame _ _ fun _ => waits_weaken)

/-! ## The launch's ghost state -/

/-- The region's staging cells are distinct. -/
theorem cells_inj : Function.Injective (Pipeline.cellOf (nD := nD) (τ := τ) (Pipeline.pin (pcfgs (F := F)) (adm (F := F)))) := cellOf_inj

/-- The handshakes' rounds and the region's staging rounds at the launch. -/
def u₀ : UU := (initOf (K (F := F)).hsCells (K (F := F)).hsToks,
  (initOf (Pipeline.cells (Pipeline.pin (pcfgs (F := F)) (adm (F := F))) cells_inj)
    (Pipeline.launchToks (Pipeline.pin (pcfgs (F := F)) (adm (F := F))) cells_inj), 1))

/-- What device `d`'s TensorCore is dealt for its region. -/
abbrev dealtTo (d : Dev nD) : sProp 𝕄 :=
  iprop(Pipeline.cellsGhost (Pipeline.pin (pcfgs (F := F)) (adm (F := F))) EP 0 d ∗ Pipeline.toksInit (Pipeline.pin (pcfgs (F := F)) (adm (F := F))) EP 0 d)

/-- Nothing, for each of a set, is nothing. -/
theorem nothing_each {I : Type} (s : Finset I) : (bigSep s fun _ => iprop(emp)) = (iprop(emp) : sProp 𝕄) := bigSep_emp_const s

/-- The launch's ghost element gives the protocol's start and what the region needs. -/
theorem hu₀ : (ownU (u₀ (F := F)) : sProp 𝕄)
    ⊢ |={Set.univ}=> iprop(BI.own (EH (initOf (K (F := F)).hsCells (K (F := F)).hsToks)) ∗ (bigSep Finset.univ fun d : Dev nD => dealtTo (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  ihave HP := (Entails.of_eq (show (BI.own (((Emb.inl : Emb UP (UP × Counters)).trans embR) _) : sProp 𝕄) = BI.own ((EP : Emb UP 𝕄) _) from rfl)) $$ HP
  imod (Pipeline.fund_ghost (Pipeline.pin (pcfgs (F := F)) (adm (F := F))) (EP : Emb UP 𝕄) cells_inj) $$ HP with ⟨Hg, Ht⟩
  imodintro
  isplitl [HH]; · iexact HH
  isplitl [Hg Ht]
  · unfold dealtTo
    rw [bigSep_sep',
      show (bigSep Finset.univ fun d : Dev nD => Pipeline.cellsGhost (Pipeline.pin (pcfgs (F := F)) (adm (F := F))) (EP : Emb UP 𝕄) 0 d)
        = bigSep Finset.univ fun d : Dev nD => bigSep Finset.univ fun p => Pipeline.cellsGhost (Pipeline.pin (pcfgs (F := F)) (adm (F := F))) (EP : Emb UP 𝕄) p d from
        bigSep_congr fun d _ => (bigSep_univ_of_subsingleton (Φ := fun p : Fin 1 => (Pipeline.cellsGhost (Pipeline.pin (pcfgs (F := F)) (adm (F := F))) (EP : Emb UP 𝕄) p d : sProp 𝕄)) (0 : Fin 1)).symm,
      show (bigSep Finset.univ fun d : Dev nD => (Pipeline.toksInit (Pipeline.pin (pcfgs (F := F)) (adm (F := F))) (EP : Emb UP 𝕄) 0 d : sProp 𝕄))
        = bigSep Finset.univ fun d : Dev nD => bigSep Finset.univ fun p => Pipeline.toksInit (Pipeline.pin (pcfgs (F := F)) (adm (F := F))) (EP : Emb UP 𝕄) p d from
        bigSep_congr fun d _ => (bigSep_univ_of_subsingleton (Φ := fun p : Fin 1 => (Pipeline.toksInit (Pipeline.pin (pcfgs (F := F)) (adm (F := F))) (EP : Emb UP 𝕄) p d : sProp 𝕄)) (0 : Fin 1)).symm]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## @main on the TensorCore -/

/-- The buffers that the TensorCore holds throughout, one by one. -/
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the TensorCore owes after the call, lent to the region and taken back. -/
theorem lend_owed (d : Dev nD) :
    ((K (F := F)).tcSt (EH : Emb UH 𝕄) d 1 : sProp 𝕄)
      ⊢ iprop((∃ W, ⌜(K (F := F)).WBelow (T d) W 8⌝ ∗ owes (T d) 0 W)
          ∗ ((∃ W, ⌜(K (F := F)).WBelow (T d) W 8⌝ ∗ owes (T d) 0 W) -∗ (K (F := F)).tcSt (EH : Emb UH 𝕄) d 1)) := by
  unfold SparseCore.Cfg.tcSt
  rw [(K (F := F)).Otc_end d (n := 1) (le_refl 1)]
  iintro ⟨HO, Hrest⟩
  isplitl [HO]; · iexact HO
  iintro HO
  isplitl [HO]; · iexact HO
  iexact Hrest

/-- The region, called from @main. -/
theorem region_run [∀ e, Nonempty (Elt F e)] (d : Dev nD) (Q : PUnit.{1} → sProp 𝕄) :
    iprop((iprop(boundary (T d) ∗ regionPost m d) -∗ Q ⟨⟩) ∗ boundary (T d) ∗ regionPre m d ∗ levAts ((K (F := F)).L (N := 1)) (K (F := F)).lev ∗ dealtTo (F := F) d)
      ⊢ wp frame (wpE ((K (F := F)).defs (D (F := F))) 𝒱 (T d) none) Set.univ
          (Prog.lift (.customCall (SparseCore.inner (Pipeline.entry 0)) ())) Q := by
  have h3 := (K (F := F)).wp_liftProg (D (F := F)) 𝒱 (T d) Set.univ none (.op (.customCall (Pipeline.entry 0) ()) fun x => .ret x) Q
  have e : (SparseCore.liftProg (Q := 1) (.op (.customCall (Pipeline.entry 0) ()) fun x => .ret x) : Prog (TpuEff nD τ sig (Elt F) (SparseCore.Sig (ΛP (F := F)) 1) .tc) PUnit.{1})
      = Prog.lift (.customCall (SparseCore.inner (Pipeline.entry 0)) ()) := rfl
  rw [e] at h3
  have h2 := Pipeline.RegionSeg.wp (pcfgs (F := F)) (adm (F := F)) (pdats m) none (cells_inj (F := F)) EP (defs₀ (F := F)) Variants.none
    ((K (F := F)).L (N := 1)) (K (F := F)).lev (region m) d none (fun _ hu => absurd hu (Option.not_mem_none _)) (fun x => Prog.ret x) Q
  have h1 : iprop((iprop(boundary (T d) ∗ regionPost m d) -∗ Q ⟨⟩) ∗ boundary (T d) ∗ regionPre m d ∗ levAts ((K (F := F)).L (N := 1)) (K (F := F)).lev ∗ dealtTo (F := F) d)
      ⊢ iprop((iprop(boundary (T d) ∗ regionPost m d) -∗ wp frame (wpE (D (F := F)) 𝒱 (T d) none) Set.univ (Prog.ret ⟨⟩) Q)
        ∗ boundary (T d) ∗ regionPre m d ∗ levAts ((K (F := F)).L (N := 1)) (K (F := F)).lev ∗ dealtTo (F := F) d) := by
    iintro ⟨Hk, Hrest⟩
    isplitl [Hk]
    · iintro H; rw [wp_ret]; imodintro; iapply Hk; iexact H
    iexact Hrest
  exact h1.trans (BI.Entails.trans h2 h3)

variable (ρ : Dev nD → PrngReg)

/-- What the TensorCore ends with: the two arguments as they were and the result at the sums. -/
abbrev FIN (d : Dev nD) : sProp 𝕄 :=
  iprop((iLoc d ↦{fullShare} m (iLoc d)) ∗ (xLoc d ↦{fullShare} m (xLoc d)) ∗ rLoc d ↦{fullShare} sumAll m d)

/-- @main: the call, then the region, from the launch's buffers to the final ones. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealtTo (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho, Hr⟩, Hts, -⟩, Hg⟩
  ihave Hd := (Entails.of_eq (dealt m d (m (oLoc d)))) $$ [Hi Hx Ho]
  · isplitl [Hi]; · iexact Hi
    isplitl [Hx]; · iexact Hx
    iexact Ho
  icases Hd with ⟨Hp, Hkept⟩
  ihave Hlv := (SparseCore.Cfg.ctx_levAts κ) $$ Hctx
  iapply ((K (F := F)).wp_run (D (F := F)) 𝒱 (EH := EH) (P := P m) κ d 0)
  isplitr; · iexact Hctx
  isplitl [Hst]; · iexact Hst
  isplitl [Hp]; · rw [started]; iexact Hp
  iintro ⟨Hst, Hdn⟩
  ihave Hp := (Entails.of_eq (finished m d)) $$ Hdn
  ihave Hall := (Entails.of_eq (dealt m d (gath m d)).symm) $$ [Hp Hkept]
  · isplitl [Hp]; · iexact Hp
    iexact Hkept
  icases Hall with ⟨Hi, Hx, Ho⟩
  ihave Hst := (Entails.of_eq (show ((K (F := F)).tcSt (EH : Emb UH 𝕄) d ((0 : Fin 1).val + 1) : sProp 𝕄) = (K (F := F)).tcSt EH d 1 from rfl)) $$ Hst
  ihave HO := (lend_owed (F := F) d) $$ Hst
  icases HO with ⟨HO, Hback⟩
  iapply (region_run m d _)
  isplitl [Hi Hx Hback Hts]
  · iintro ⟨Hb, Hpost⟩
    unfold regionPost
    icases Hpost with ⟨Hr, -, HO⟩
    imodintro
    isplitl [Hback HO]; · iapply Hback; iexact HO
    isplitl [Hi Hx Hr]
    · isplitl [Hi]; · iexact Hi
      isplitl [Hx]; · iexact Hx
      iexact Hr
    isplitl [Hb]; · iexact Hb
    iexact Hts
  isplitl [Hb]; · iexact Hb
  isplitl [Hr Ho HO]
  · unfold regionPre
    isplitl [Hr]; · iexact Hr
    isplitl [Ho]; · iapply (Entails.of_eq (show (oLoc d ↦{fullShare} gath m d : sProp 𝕄) = holds d srcM (gath m d) from rfl)); iexact Ho
    iexact HO
  isplitl [Hlv]; · iexact Hlv
  iexact Hg

/-! ## The final memory -/

/-- The final memory of device `d`: both arguments as at the launch, the result at the sums. -/
def fq (d : Dev nD) (s' : Phys nD τ sig (Elt F)) : Prop :=
  s'.mem.mem (iLoc d) = m (iLoc d) ∧ s'.mem.mem (xLoc d) = m (xLoc d) ∧ s'.mem.mem (rLoc d) = sumAll m d

/-- What @main ends with, read off the final memory. -/
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := sumAll m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- Every device's final memory as `fq` says, every semaphore at zero. -/
def QC : PUnit × MemSt nD τ sig (Elt F) → Prop := fun r =>
  (∀ d : Dev nD, r.2.mem (iLoc d) = m (iLoc d) ∧ r.2.mem (xLoc d) = m (xLoc d) ∧ r.2.mem (rLoc d) = sumAll m d) ∧ r.2.sem = fun _ => 0

/-- From a memory whose row numbers are rows of the table, the program runs, leaves the arguments, fills the result
    with the sums and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => dealtTo (F := F) d) (FIN m) (u₀ (F := F)) (sep_elim_left.trans (hu₀ m)) (hmain m ρ) (fq m) (hfin m) (QC m) (fun _ h hz => ⟨h, hz⟩)

end Run

end Cert.Proof.Gather

end
-- ==== Proof.Frames.lean ====
/-
  The kernel's frames: the precondition says that every row number is a row of the table, and from such a memory the
  run of the whole program leaves the arguments and the semaphores as the claims ask.
-/
module

public import proofs.«01_k».proof.Defs
public import proofs.«01_k».proof.Proof.Launch
public import proofs.«01_k».proof.Proof.Gen.Kernel
public import proofs.«01_k».proof.Proof.Gen.Pre_drawn_from_the_vocabulary
public import Idealize.ShloMosaic.Adequacy
public import Idealize.ShloMosaic.Init

@[expose] public section

set_option maxRecDepth 16384

noncomputable section

namespace Cert.Proof.Gather

open Idealize.ShloMosaic Idealize.SL.Sem

/-- A signed word that is at least zero and less than the vocabulary's size is, unsigned, less than it. -/
theorem word_in_range (v : BitVec 32) (h : IntOp.andi (IntOp.cmpi .sge v 0#32) (IntOp.cmpi .slt v 697162#32) = 1#1) : v.toNat < 697162 := by
  have h0 : (0#32).sle v = true := by
    cases e : (0#32).sle v
    · simp only [IntOp.cmpi, e] at h
      revert h; cases v.slt 697162#32 <;> decide
    · rfl
  have h1 : v.slt 697162#32 = true := by
    cases e : v.slt 697162#32
    · simp only [IntOp.cmpi, e] at h
      revert h; cases (0#32).sle v <;> decide
    · rfl
  rw [BitVec.sle_eq_decide, decide_eq_true_eq] at h0
  rw [BitVec.slt_eq_decide, decide_eq_true_eq] at h1
  rw [BitVec.toInt_eq_toNat_cond] at h0 h1
  simp only [BitVec.toNat_ofNat, BitVec.toInt_eq_toNat_cond] at h0 h1
  omega

/-- The precondition, over any float values. -/
theorem drawn {F : FTy → Type} [FloatOps F] (i : IVec Cert.KernelIdeal.S256 32) (x : FVec F Cert.KernelIdeal.S697162x512 .f32)
    (h : Cert.Pre_drawn_from_the_vocabulary.fn i x = fun _ => 1#1) (j : Cert.KernelIdeal.S256.Idx) : (i j).toNat < 697162 :=
  word_in_range _ (congrFun h j)

/-- The kernel's frame on exact values. -/
theorem frame_ideal : Cert.quiescent_KernelIdeal := fun m ρ hpre =>
  (θ_run Cert.KernelIdeal.defs _ _).mono (fun _ h => ⟨fun d => ⟨(h.1 d).1, (h.1 d).2.1⟩, h.2⟩)
    (run_main (F := Ideal) m ρ fun d j => drawn _ _ (hpre d) j)

/-- On words: the run of the same program under its other name. -/
theorem words_run (m : (l : Loc Cert.KernelIdeal.nD Cert.KernelIdeal.τ Cert.KernelIdeal.sig) → Buf (Elt Bits) l) (ρ : Dev Cert.KernelIdeal.nD → PrngReg)
    (hpre : PreOK m) :
    θ_run (Cert.KernelIdeal.defs (F := Bits)) (Cert.KernelIdeal.threads (F := Bits)) ⟨m, fun _ => 0, ρ⟩ fun r =>
      (∀ d, r.2.mem (iLoc d) = m (iLoc d) ∧ r.2.mem (xLoc d) = m (xLoc d)) ∧ r.2.sem = fun _ => 0 :=
  (θ_run _ _ _).mono (fun _ h => ⟨fun d => ⟨(h.1 d).1, (h.1 d).2.1⟩, h.2⟩) (run_main (F := Bits) m ρ hpre)

/-- The kernel's frame on words. -/
theorem frame_kernel : Cert.quiescent_Kernel := by
  intro m ρ hpre
  have h := words_run m ρ fun d j => drawn _ _ (hpre d) j
  have e : (θ_run (Cert.KernelIdeal.defs (F := Bits)) (Cert.KernelIdeal.threads (F := Bits)) ⟨m, fun _ => 0, ρ⟩ fun r =>
      (∀ d, r.2.mem (iLoc d) = m (iLoc d) ∧ r.2.mem (xLoc d) = m (xLoc d)) ∧ r.2.sem = fun _ => 0) =
    (θ_run (Cert.Kernel.defs (F := Bits)) (Cert.Kernel.threads (F := Bits)) ⟨m, fun _ => 0, ρ⟩ fun r =>
      (∀ c : Dev Cert.Kernel.nD, r.2.mem (c.tc.loc Cert.Kernel.main_arg0) = m (c.tc.loc Cert.Kernel.main_arg0)
        ∧ r.2.mem (c.tc.loc Cert.Kernel.main_arg1) = m (c.tc.loc Cert.Kernel.main_arg1)) ∧ r.2.sem = fun _ => 0) := by
    sl_kernel_rfl
  exact e ▸ h

end Cert.Proof.Gather

end
-- ==== Proof.Table.lean ====
/-
  The positional table on exact values: the kernel's region computes at (position, column) the sine or the cosine of
  one angle, the same the reference stacks and reshapes.
-/
module

public import proofs.«01_k».proof.Proof.Setup
public import Idealize.ShloMosaic.PureOps.Ideal
public import Idealize.ShloMosaic.PureOps.Ideal.Laws
public import Idealize.ShloMosaic.Lib.Pipeline.Value

@[expose] public section

set_option maxRecDepth 16384

noncomputable section

namespace Cert.Proof.Gather

open Idealize.ShloMosaic

/-- The angle at a position and a frequency's number: the position times the exponential of twice the number times the
    (rounded) constant. -/
def angle (p k : ℕ) : EReal := ((p : ℝ) : EReal) * Ideal.exp (((2 * k : ℝ) : EReal) * Ideal.ofBits .f32 0xBC935D8E#32)

/-- The positional table: sines at the even columns, cosines at the odd. -/
def posAt (p c : ℕ) : EReal := if c % 2 = 0 then Ideal.sin (angle p (c / 2)) else Ideal.cos (angle p (c / 2))

/-- The value of a small word, read signed. -/
theorem word_toInt (n : ℕ) (h : n < 10000) : (BitVec.ofNat 32 n).toInt = n := by
  rw [BitVec.toInt_eq_toNat_cond, BitVec.toNat_ofNat]
  omega

/-- The same, as an extended real. -/
theorem word_real (n : ℕ) (h : n < 10000) : (((BitVec.ofNat 32 n).toInt : ℝ) : EReal) = ((n : ℝ) : EReal) := by
  rw [word_toInt n h]; norm_cast

/-! ## The kernel's -/

section Kernel

open Cert.KernelIdeal Cert.KernelIdeal.Gen

/-- A column's number halved and doubled, and its last bit. -/
theorem halved (c : Fin 512) : IntOp.shli .vector (IntOp.shrsi .vector (BitVec.ofNat 32 c.val) 1#32) 1#32 = BitVec.ofNat 32 (2 * (c.val / 2)) := by
  revert c; decide +kernel
/-- Whether a column's number is even. -/
theorem last_bit (c : Fin 512) : IntOp.cmpi .eq (IntOp.andi (BitVec.ofNat 32 c.val) 1#32) 0#32 = BitVec.ofBool (decide (c.val % 2 = 0)) := by
  revert c; decide +kernel

/-- The kernel's position table at position `p`, column `c`. -/
theorem kernel_pos (p : Fin 256) (c : Fin 512) : k1_pay3 (F := Ideal) (rowAt p c) = posAt p.val c.val := by
  have e : k1_pay3 (F := Ideal) (rowAt p c) =
      if IntOp.cmpi .eq (IntOp.andi (BitVec.ofNat 32 c.val) 1#32) 0#32 = 1#1
      then Ideal.sin ((((BitVec.ofNat 32 p.val).toInt : ℝ) : EReal) *
        Ideal.exp ((((IntOp.shli .vector (IntOp.shrsi .vector (BitVec.ofNat 32 c.val) 1#32) 1#32).toInt : ℝ) : EReal) * Ideal.ofBits .f32 0xBC935D8E#32))
      else Ideal.cos ((((BitVec.ofNat 32 p.val).toInt : ℝ) : EReal) *
        Ideal.exp ((((IntOp.shli .vector (IntOp.shrsi .vector (BitVec.ofNat 32 c.val) 1#32) 1#32).toInt : ℝ) : EReal) * Ideal.ofBits .f32 0xBC935D8E#32)) := by
    rw [k1_pay3]
    refine (shapeCast_apply _ _ (rowAt p c) (rowAt p c) rfl).trans ?_
    have e0 : iota .tc S256x512 32 [0] iota_S256x512_d0_w32 (rowAt p c) = BitVec.ofNat 32 p.val := by simp [iota, rowAt]
    have e1 : iota .tc S256x512 32 [1] iota_S256x512_d1_w32 (rowAt p c) = BitVec.ofNat 32 c.val := by simp [iota, rowAt]
    rw [← e0, ← e1]
    rfl
  rw [e, halved, last_bit, word_real _ (by omega), word_real _ (by omega)]
  unfold posAt angle
  by_cases h : c.val % 2 = 0 <;> simp [h]

end Kernel

end Cert.Proof.Gather

end
-- ==== Proof.RefValue.lean ====
/-
  The reference's result on exact values, index by index: the row that the word names, plus the positional table. Each
  step reads one operation of the reference at one index, until the leaves are the arguments and the constants.
-/
module

public import proofs.«01_k».proof.Proof.Table
public import proofs.«01_k».proof.Proof.TcRegion
public import proofs.«01_k».proof.Proof.Gen.ReferenceIdeal.Run
public import Idealize.ShloMosaic.Lib.Routing.Ops

@[expose] public section

set_option maxRecDepth 16384

noncomputable section

namespace Cert.Proof.Gather

open Idealize.ShloMosaic Cert.ReferenceIdeal Cert.ReferenceIdeal.Gen

/-! ## The indices of the reference's shapes -/

/-- Word `j`, in a column. -/
def sent (j : Fin 256) : S256x1.Idx := fun | ⟨0, _⟩ => j | ⟨1, _⟩ => (0 : Fin 1)
/-- Row `i`, column `k`, of one sheet. -/
def sheet (i : Fin 256) (k : Fin 512) : S1x256x512.Idx := fun | ⟨0, _⟩ => (0 : Fin 1) | ⟨1, _⟩ => i | ⟨2, _⟩ => k
/-- Position `p`, column `c`, of the cut table. -/
def bar (p : Fin 256) (c : Fin 512) : S256x1x512.Idx := fun | ⟨0, _⟩ => p | ⟨1, _⟩ => (0 : Fin 1) | ⟨2, _⟩ => c
/-- Position `p`, column `c`, of the whole table. -/
def longBar (p : Fin 10000) (c : Fin 512) : S10000x1x512.Idx := fun | ⟨0, _⟩ => p | ⟨1, _⟩ => (0 : Fin 1) | ⟨2, _⟩ => c
/-- Position `p`, frequency `k`, sine or cosine. -/
def twin (p : Fin 10000) (k : Fin 256) (b : Fin 2) : S10000x256x2.Idx := fun | ⟨0, _⟩ => p | ⟨1, _⟩ => k | ⟨2, _⟩ => b
/-- Position `p`, frequency `k`, of one of the two. -/
def single (p : Fin 10000) (k : Fin 256) : S10000x256x1.Idx := fun | ⟨0, _⟩ => p | ⟨1, _⟩ => k | ⟨2, _⟩ => (0 : Fin 1)
/-- Position `p`, frequency `k`. -/
def spot (p : Fin 10000) (k : Fin 256) : S10000x256.Idx := fun | ⟨0, _⟩ => p | ⟨1, _⟩ => k
/-- Position `p`, in a column. -/
def tall (p : Fin 10000) : S10000x1.Idx := fun | ⟨0, _⟩ => p | ⟨1, _⟩ => (0 : Fin 1)
/-- Frequency `k`, in a row. -/
def wide (k : Fin 256) : S1x256.Idx := fun | ⟨0, _⟩ => (0 : Fin 1) | ⟨1, _⟩ => k
/-- Position `p`. -/
def place (p : Fin 10000) : S10000.Idx := fun | ⟨0, _⟩ => p

/-! ## The gathered rows -/

/-- A bit's conjunction over any list of ones is one. -/
theorem all_ones {α : Type} (f : α → BitVec 1) (l : List α) (h : ∀ i, f i = 1#1) : l.foldl (fun r i => IntOp.andi r (f i)) 1#1 = 1#1 := by
  induction l with
  | nil => rfl
  | cons a t ih => rw [List.foldl_cons, h a]; exact ih

/-- A word below the vocabulary's size is not negative, -/
theorem not_neg (v : BitVec 32) (h : v.toNat < 697162) : IntOp.cmpi .slt v 0#32 = 0#1 := by
  have e : v.slt 0#32 = false := by
    rw [BitVec.slt_eq_decide, decide_eq_false_iff_not, BitVec.toInt_eq_toNat_cond]
    simp only [BitVec.toInt_zero]; omega
  simp only [IntOp.cmpi, e]; rfl

/-- and lies between the bounds that the reference checks. -/
theorem in_bounds (v : BitVec 32) (h : v.toNat < 697162) : IntOp.andi (IntOp.cmpi .sge v 0#32) (IntOp.cmpi .sle v 697161#32) = 1#1 := by
  have e0 : (0#32).sle v = true := by
    rw [BitVec.sle_eq_decide, decide_eq_true_eq, BitVec.toInt_eq_toNat_cond v]
    simp only [BitVec.toInt_zero]; omega
  have e1 : v.sle 697161#32 = true := by
    rw [BitVec.sle_eq_decide, decide_eq_true_eq, BitVec.toInt_eq_toNat_cond v]
    have : (697161#32).toInt = 697161 := by decide
    rw [this]; omega
  simp only [IntOp.cmpi, e0, e1]; rfl

/-- The wrapped words are the words. -/
theorem wrap_id (i : IVec S256 32) (h : ∀ j, (i j).toNat < 697162) (a b : IVec S256 32) (ha : ∀ j, a j = 0#32) :
    select (cmpi .slt i a) b i = i := by
  funext j
  show Scalar.select (IntOp.cmpi .slt (i j) (a j)) (b j) (i j) = i j
  rw [ha j, not_neg _ (h j)]; rfl

/-! ## The angle -/

/-- The word of the float two. -/
theorem two_word : Ideal.ofBits .f32 0x40000000#32 = ((2 : ℝ) : EReal) := by
  simp [Ideal.ofBits, Ideal.ieee, -EReal.coe_mul]; norm_num

/-- The reference's frequency of number `k`. -/
theorem ref_freq (k : Fin 256) :
    Host.exp (F := Ideal) (mulf (addf (broadcastInDim S256 ![] bcast_S_S256 (constant S_ .f32 0x00000000#32))
      (mulf (broadcastInDim S256 ![] bcast_S_S256 (constant S_ .f32 0x40000000#32)) (sitofp .f32 (iotaInDim S256 32 0))))
      (broadcastInDim S256 ![] bcast_S_S256 (constant S_ .f32 0xBC935D8E#32))) (wordAt k)
      = Ideal.exp (((2 * k.val : ℝ) : EReal) * Ideal.ofBits .f32 0xBC935D8E#32) := by
  show Ideal.exp ((Ideal.ofBits .f32 0x00000000#32 + Ideal.ofBits .f32 0x40000000#32 * (((BitVec.ofNat 32 k.val).toInt : ℝ) : EReal)) * Ideal.ofBits .f32 0xBC935D8E#32) = _
  rw [word_real _ (by omega), two_word, Ideal.ofBits_zero_f32, zero_add, ← EReal.coe_mul]

/-- A vector of the positions and one of the frequencies, each spread over both, multiplied: the product of the two entries. -/
theorem outer_read (A : FVec Ideal S10000 .f32) (B : FVec Ideal S256 .f32) (p : Fin 10000) (k : Fin 256) :
    mulf (F := Ideal) (broadcastInDim S10000x256 ![0, 1] bcast_S10000x1_S10000x256_0_1 (broadcastInDim S10000x1 ![0] bcast_S10000_S10000x1_0 A))
      (broadcastInDim S10000x256 ![0, 1] bcast_S1x256_S10000x256_0_1 (broadcastInDim S1x256 ![1] bcast_S256_S1x256_1 B)) (spot p k)
      = (A (place p) * B (wordAt k) : EReal) := by
  refine congrArg₂ (fun a b : EReal => a * b) ?_ ?_
  · refine (broadcastInDim_apply _ _ _ (spot p k) (tall p) fun a => ?_).trans (broadcastInDim_apply _ _ _ (tall p) (place p) fun a => ?_)
    · match a with
      | ⟨0, _⟩ => rfl
      | ⟨1, _⟩ => rfl
    · match a with
      | ⟨0, _⟩ => rfl
  · refine (broadcastInDim_apply _ _ _ (spot p k) (wide k) fun a => ?_).trans (broadcastInDim_apply _ _ _ (wide k) (wordAt k) fun a => ?_)
    · match a with
      | ⟨0, _⟩ => rfl
      | ⟨1, _⟩ => rfl
    · match a with
      | ⟨0, _⟩ => rfl

/-! ## The table's layout -/

/-- Two arrays stacked on a last axis, reshaped to rows, cut to the first 256 of them and spread over the words: at column
    `c` the first array's entry `c / 2` where `c` is even, the second's where it is odd. -/
theorem stacked_read (u v : FVec Ideal S10000x256 .f32) (y : S256x256x512.Idx) (p : Fin 10000) (hp : p.val = (y 0).val)
    (k : Fin 256) (hk : k.val = (y 2).val / 2) :
    broadcastInDim S256x256x512 ![0, 1, 2] bcast_S256x1x512_S256x256x512_0_1_2
      (extractStridedSlice S256x1x512 ![0, 0, 0]
        (shapeCast S10000x1x512
          (concatenate S10000x256x2 2
            [⟨S10000x256x1, broadcastInDim S10000x256x1 ![0, 1] bcast_S10000x256_S10000x256x1_0_1 u⟩,
              ⟨S10000x256x1, broadcastInDim S10000x256x1 ![0, 1] bcast_S10000x256_S10000x256x1_0_1 v⟩]
            concatenates_S10000x256x1_S10000x256x1_S10000x256x2_d2)
          shapeCasts_S10000x256x2_S10000x1x512)
        slices_S10000x1x512_S256x1x512_0_0_0) y
      = if (y 2).val % 2 = 0 then u (spot p k) else v (spot p k) := by
  have hlast : ∀ w : FVec Ideal S10000x256 .f32,
      broadcastInDim S10000x256x1 ![0, 1] bcast_S10000x256_S10000x256x1_0_1 w (single p k) = w (spot p k) := fun w =>
    broadcastInDim_apply _ _ _ (single p k) (spot p k) fun a => by
      match a with
      | ⟨0, _⟩ => rfl
      | ⟨1, _⟩ => rfl
  refine (broadcastInDim_apply _ _ _ y (bar (y 0) (y 2)) fun a => ?_).trans ?_
  · match a with
    | ⟨0, _⟩ => rfl
    | ⟨1, _⟩ => rfl
    | ⟨2, _⟩ => rfl
  refine (extractStridedSlice_apply _ _ _ (bar (y 0) (y 2)) (longBar p (y 2)) fun a => ?_).trans ?_
  · match a with
    | ⟨0, _⟩ => exact hp.trans (Nat.zero_add _).symm
    | ⟨1, _⟩ => rfl
    | ⟨2, _⟩ => exact (Nat.zero_add _).symm
  have h2 : (y 2).val < 512 := (y 2).isLt
  have hcell : ∀ b : Fin 2, b.val = (y 2).val % 2 → (S10000x256x2.rowMajor (twin p k b)).val = (S10000x1x512.rowMajor (longBar p (y 2))).val := fun b hb => by
    rw [Shape.rowMajor_val_three, Shape.rowMajor_val_three]
    show (p.val * 256 + k.val) * 2 + b.val = (p.val * 1 + 0) * 512 + (y 2).val
    omega
  by_cases e : (y 2).val % 2 = 0
  · rw [if_pos e]
    refine (shapeCast_apply _ _ (longBar p (y 2)) (twin p k 0) (hcell 0 e.symm)).trans ?_
    refine (concatenate_pair_apply_left (s₁ := S10000x256x1) (s₂ := S10000x256x1) 2 _ _ _ (twin p k 0) rfl (single p k) fun b => ?_).trans (hlast u)
    match b with
    | ⟨0, _⟩ => rfl
    | ⟨1, _⟩ => rfl
    | ⟨2, _⟩ => rfl
  · rw [if_neg e]
    refine (shapeCast_apply _ _ (longBar p (y 2)) (twin p k 1) (hcell 1 (by show 1 = _; omega))).trans ?_
    refine (concatenate_pair_apply_right (s₁ := S10000x256x1) (s₂ := S10000x256x1) 2 _ _ _ (twin p k 1) rfl rfl (single p k) (fun b hb => ?_) rfl).trans (hlast v)
    match b with
    | ⟨0, _⟩ => rfl
    | ⟨1, _⟩ => rfl
    | ⟨2, _⟩ => exact absurd rfl hb

/-! ## The gather -/

/-- The rows gathered by words that, wrapped, are the same words and in range, with the reference's own check of the range, spread over the positions. -/
theorem rows_read (w i : IVec S256 32) (hw : w = i) (x : FVec Ideal S697162x512 .f32) (h : ∀ j, (i j).toNat < 697162)
    (lo hi : IVec S256x1 32) (hlo : ∀ j, lo j = 0#32) (hhi : ∀ j, hi j = 697161#32) (nan : FVec Ideal S256x512 .f32)
    (y : S256x256x512.Idx) (r : Fin 697162) (hr : r.val = (i (wordAt (y 1))).toNat) :
    broadcastInDim S256x256x512 ![0, 1, 2] bcast_S1x256x512_S256x256x512_0_1_2
      (broadcastInDim S1x256x512 ![1, 2] bcast_S256x512_S1x256x512_1_2
        (select (broadcastInDim S256x512 ![0] bcast_S256_S256x512_0
            (Host.reduce IntOp.andi (andi (cmpi .sge (broadcastInDim S256x1 ![0] bcast_S256_S256x1_0 w) lo)
              (cmpi .sle (broadcastInDim S256x1 ![0] bcast_S256_S256x1_0 w) hi)) (constantI S_ 1 1#1) reducesTo_S256x1_S256_d1 h_S_))
          (Host.gather gather_S697162x512_S256x1_S256x512_1_0_n_n_0_1_1512 x (broadcastInDim S256x1 ![0] bcast_S256_S256x1_0 w)) nan)) y
      = x (tabAt r (y 2)) := by
  subst hw
  refine (broadcastInDim_apply _ _ _ y (sheet (y 1) (y 2)) fun a => ?_).trans ?_
  · match a with
    | ⟨0, _⟩ => rfl
    | ⟨1, _⟩ => rfl
    | ⟨2, _⟩ => rfl
  refine (broadcastInDim_apply _ _ _ (sheet (y 1) (y 2)) (rowAt (y 1) (y 2)) fun a => ?_).trans ?_
  · match a with
    | ⟨0, _⟩ => rfl
    | ⟨1, _⟩ => rfl
  have hone : ∀ j, Host.reduce IntOp.andi (andi (cmpi .sge (broadcastInDim S256x1 ![0] bcast_S256_S256x1_0 w) lo)
      (cmpi .sle (broadcastInDim S256x1 ![0] bcast_S256_S256x1_0 w) hi)) (constantI S_ 1 1#1) reducesTo_S256x1_S256_d1 h_S_ j = 1#1 := fun j => by
    rw [Host.reduce_eq_foldl]
    refine all_ones _ _ fun a => ?_
    show IntOp.andi (IntOp.cmpi .sge _ (lo a)) (IntOp.cmpi .sle _ (hi a)) = 1#1
    rw [hlo, hhi]
    exact in_bounds _ (h _)
  have hrow : Host.gather gather_S697162x512_S256x1_S256x512_1_0_n_n_0_1_1512 x (broadcastInDim S256x1 ![0] bcast_S256_S256x1_0 w)
      (ValueIdx.ix2 (y 1) (y 2)) = x (ValueIdx.ix2 r (y 2)) := by
    refine Routing.gather_row gather_S697162x512_S256x1_S256x512_1_0_n_n_0_1_1512 rfl rfl rfl rfl rfl x _ (y 1) (y 2) r ?_ (by norm_num)
    refine (broadcastInDim_apply _ _ _ _ (wordAt (y 1)) fun a => ?_).trans ?_
    · match a with
      | ⟨0, _⟩ => rfl
    · rw [hr, BitVec.ofNat_toNat, BitVec.setWidth_eq]
  have e1 : (ValueIdx.ix2 (y 1) (y 2) : S256x512.Idx) = rowAt (y 1) (y 2) := by
    funext a
    match a with
    | ⟨0, _⟩ => rfl
    | ⟨1, _⟩ => rfl
  have e2 : (ValueIdx.ix2 r (y 2) : S697162x512.Idx) = tabAt r (y 2) := by
    funext a
    match a with
    | ⟨0, _⟩ => rfl
    | ⟨1, _⟩ => rfl
  rw [← e1, ← e2, ← hrow]
  have hb : ∀ z, broadcastInDim S256x512 ![0] bcast_S256_S256x512_0
      (Host.reduce IntOp.andi (andi (cmpi .sge (broadcastInDim S256x1 ![0] bcast_S256_S256x1_0 w) lo)
        (cmpi .sle (broadcastInDim S256x1 ![0] bcast_S256_S256x1_0 w) hi)) (constantI S_ 1 1#1) reducesTo_S256x1_S256_d1 h_S_) z = 1#1 := fun z => hone _
  show Scalar.select _ _ _ = _
  rw [hb]; rfl

end Cert.Proof.Gather

end
-- ==== Proof.Results.lean ====
/-
  The two results compared: on exact values both programs end with the same array, the row that each word names plus
  the positional table. Also the reference's frames, read off its run.
-/
module

public import proofs.«01_k».proof.Defs
public import proofs.«01_k».proof.Proof.Frames
public import proofs.«01_k».proof.Proof.RefValue

@[expose] public section

set_option maxRecDepth 16384

noncomputable section

namespace Cert.Proof.Gather

open Idealize.ShloMosaic Idealize.SL.Sem

/-- The reference runs, keeps its arguments, and has no semaphore that could be left raised. -/
theorem ref_run (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m ρ)

/-- The reference's frame. -/
theorem frame_ref : Cert.quiescent_ReferenceIdeal := fun m ρ _ => ref_run m ρ

/-- The same under the kernel's precondition, which it does not need. -/
theorem frame_ref_pre : Cert.quiescent_ReferenceIdeal_pre_drawn_from_the_vocabulary := fun m ρ _ => ref_run m ρ

/-- The table's two kinds of column, at the reference's spelling of position and frequency. -/
theorem posAt_even (p k c : ℕ) (h : c % 2 = 0) (hk : k = c / 2) : Ideal.sin (angle p k) = posAt p c := by
  rw [posAt, if_pos h, hk]
/-- The odd column's. -/
theorem posAt_odd (p k c : ℕ) (h : ¬ c % 2 = 0) (hk : k = c / 2) : Ideal.cos (angle p k) = posAt p c := by
  rw [posAt, if_neg h, hk]

/-- Kernel and reference end with the same array. -/
theorem algebraic : Cert.algebraic_KernelIdeal_ReferenceIdeal := by
  intro m ρ m' ρ' hpre hagree
  have hok : PreOK m := fun d j => drawn _ _ (hpre d) j
  refine ⟨fun c => sumAll m c,
    (θ_run Cert.KernelIdeal.defs _ _).mono (fun _ h c => ⟨(h.1 c).2.2, (h.1 c).1, (h.1 c).2.1⟩) (run_main (F := Ideal) m ρ hok), ?_⟩
  refine (θ_run Cert.ReferenceIdeal.defs _ _).mono (fun _ h c => ⟨(h c).1.trans ?_, (h c).2⟩) (Cert.ReferenceIdeal.Value.run m' ρ')
  rw [(hagree c).1, (hagree c).2]
  funext y
  have h0 : (y 0).val < 256 := (y 0).isLt
  have h2 : (y 2).val < 512 := (y 2).isLt
  let p : Fin 10000 := ⟨(y 0).val, by omega⟩
  let k : Fin 256 := ⟨(y 2).val / 2, by omega⟩
  refine congrArg₂ (fun a b : EReal => a + b) ?_ ?_
  · refine (rows_read _ (m (iLoc c)) (wrap_id _ (hok c) _ _ fun _ => rfl) _ (hok c) _ _ (fun _ => rfl) (fun _ => rfl) _ y (rowOf m c (y 1)) ?_).trans rfl
    exact Nat.mod_eq_of_lt (hok c _)
  · refine (stacked_read _ _ y p rfl k rfl).trans (Eq.trans ?_ (kernel_pos (y 0) (y 2)).symm)
    have hp : (sitofp .f32 (iotaInDim Cert.ReferenceIdeal.S10000 32 0) : FVec Ideal Cert.ReferenceIdeal.S10000 .f32) (place p)
        = ((p.val : ℝ) : EReal) := word_real p.val p.isLt
    have hθ := (outer_read _ _ p k).trans (congrArg₂ (fun a b : EReal => a * b) hp (ref_freq k))
    by_cases e : (y 2).val % 2 = 0
    · rw [if_pos e]
      exact (congrArg Ideal.sin hθ).trans (posAt_even _ _ _ e rfl)
    · rw [if_neg e]
      exact (congrArg Ideal.cos hθ).trans (posAt_odd _ _ _ e rfl)

end Cert.Proof.Gather

end
-- ==== Proof.lean ====
/-
  The claim, put together: the kernel's frame on words and on exact values (Proof/Frames.lean), the reference's frames
  and the equality of the two results (Proof/Results.lean). The idealization rewrites nothing, so `preserves` is trivial.

  The modules under Proof/, in the order they build on each other:
  Setup      the resources, the values, the SparseCore kernel's description
  Shares     how the table and the words are dealt to the tiles
  GatherStep one 128-column gather of a tile, and what its four leave in the rows' buffer
  Tile       a tile's whole body
  TcFirst, TcLater, TcBlock, TcRegion   the TensorCore's additions, block by block
  Launch     all threads together: the run of the program
  Table      the positional table on exact values
  RefValue   the reference's operations, read at an index
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_drawn_from_the_vocabulary
public import proofs.«01_k».proof.Proof.Frames
public import proofs.«01_k».proof.Proof.Results
public import Idealize.ShloMosaic.Adequacy
public import Idealize.ShloMosaic.Init

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre_drawn_from_the_vocabulary.Gen.facts,
    Gather.frame_kernel, Gather.frame_ideal, Gather.frame_ref, Gather.frame_ref_pre, trivial, Gather.algebraic⟩

end Cert.Proof

end
